-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S56000x128 : Shape := ⟨2, ![56000, 128]⟩
abbrev S2000 : Shape := ⟨1, ![2000]⟩
abbrev S_ : Shape := ⟨0, ![]⟩
abbrev S2048 : Shape := ⟨1, ![2048]⟩
abbrev S1x2048 : Shape := ⟨2, ![1, 2048]⟩
abbrev S56x56x2000 : Shape := ⟨3, ![56, 56, 2000]⟩
abbrev S1x256 : Shape := ⟨2, ![1, 256]⟩
abbrev S7168x128 : Shape := ⟨2, ![7168, 128]⟩
abbrev S56x56x256 : Shape := ⟨3, ![56, 56, 256]⟩
abbrev S56x128x128 : Shape := ⟨3, ![56, 128, 128]⟩
abbrev S56x256 : Shape := ⟨2, ![56, 256]⟩
abbrev S28x128 : Shape := ⟨2, ![28, 128]⟩
abbrev S56x128 : Shape := ⟨2, ![56, 128]⟩
abbrev S1 : Shape := ⟨1, ![1]⟩
abbrev S28x128x1 : Shape := ⟨3, ![28, 128, 1]⟩
abbrev S28x64 : Shape := ⟨2, ![28, 64]⟩
abbrev S28x256 : Shape := ⟨2, ![28, 256]⟩
abbrev S8x256 : Shape := ⟨2, ![8, 256]⟩
abbrev S128x256 : Shape := ⟨2, ![128, 256]⟩
abbrev S56x1x128 : Shape := ⟨3, ![56, 1, 128]⟩
abbrev S1x128x128 : Shape := ⟨3, ![1, 128, 128]⟩
abbrev S128x128 : Shape := ⟨2, ![128, 128]⟩
abbrev S1x56x128 : Shape := ⟨3, ![1, 56, 128]⟩
abbrev S1x128 : Shape := ⟨2, ![1, 128]⟩
abbrev S1x56x256 : Shape := ⟨3, ![1, 56, 256]⟩

abbrev nBuf : Space → Nat
  | .hbm => 7
  | .vmem => 8
  | .smem => 1
  | _ => 0

abbrev bufTy : (tb : Table) → Fin (tcTables nBuf tb) → BufTy
  | .hbm, ⟨0, _⟩ => ⟨S56000x128, .i32⟩
  | .hbm, ⟨1, _⟩ => ⟨S2000, .i32⟩
  | .hbm, ⟨2, _⟩ => ⟨S_, .i32⟩
  | .hbm, ⟨3, _⟩ => ⟨S_, .i32⟩
  | .hbm, ⟨4, _⟩ => ⟨S2048, .i32⟩
  | .hbm, ⟨5, _⟩ => ⟨S1x2048, .i32⟩
  | .hbm, ⟨6, _⟩ => ⟨S56x56x2000, .f32⟩
  | .local _ .vmem, ⟨0, _⟩ => ⟨S1x256, .i32⟩
  | .local _ .vmem, ⟨1, _⟩ => ⟨S1x256, .i32⟩
  | .local _ .vmem, ⟨2, _⟩ => ⟨S7168x128, .i32⟩
  | .local _ .vmem, ⟨3, _⟩ => ⟨S7168x128, .i32⟩
  | .local _ .vmem, ⟨4, _⟩ => ⟨S56x56x256, .f32⟩
  | .local _ .vmem, ⟨5, _⟩ => ⟨S56x56x256, .f32⟩
  | .local _ .vmem, ⟨6, _⟩ => ⟨S56x128x128, .f32⟩
  | .local _ .vmem, ⟨7, _⟩ => ⟨S56x256, .f32⟩
  | .local _ .smem, ⟨0, _⟩ => ⟨S2048, .i32⟩
  | _, _ => ⟨S56000x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_1 : BitVec 32 := 0#32
  let c128_i32 : BitVec 32 := 128#32
  let v21 : BitVec 32 := Scalar.addi c0_i32_1 c128_i32
  let c1_i32 : BitVec 32 := 1#32
  ⟨c0_i32_1, v21, c1_i32⟩
def k0_off1 (k0_t1 : Fin k0_t1_loop.trips) : Fin 2 → Nat :=
  let c0_i32_1 : BitVec 32 := 0#32
  let c1_i32 : BitVec 32 := 1#32
  let arg7 : BitVec 32 := Scf.iv c0_i32_1 c1_i32 k0_t1
  let c28_i32_1242 : BitVec 32 := 28#32
  let v2044 : BitVec 32 := Scalar.muli arg7 c28_i32_1242
  let v2045 : Index := Scalar.indexCast v2044
  let c0_1243 : Index := 0#32
  ![v2045.toNat, 0]
def k0_off2 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32_1 : BitVec 32 := 0#32
  let c1_i32 : BitVec 32 := 1#32
  let arg7 : BitVec 32 := Scf.iv c0_i32_1 c1_i32 k0_t1
  let v2047 : BitVec 32 := Scalar.addi v0 arg7
  let v2048 : Index := Scalar.indexCast v2047
  ![v2048.toNat]
def k0_off3 (k0_t1 : Fin k0_t1_loop.trips) : Fin 2 → Nat :=
  let c0_i32_1 : BitVec 32 := 0#32
  let c1_i32 : BitVec 32 := 1#32
  let arg7 : BitVec 32 := Scf.iv c0_i32_1 c1_i32 k0_t1
  let c128_i32_1257 : BitVec 32 := 128#32
  let v2108 : BitVec 32 := Scalar.addi arg7 c128_i32_1257
  let c28_i32_1258 : BitVec 32 := 28#32
  let v2109 : BitVec 32 := Scalar.muli v2108 c28_i32_1258
  let v2110 : Index := Scalar.indexCast v2109
  let c0_1259 : Index := 0#32
  ![v2110.toNat, 0]
def k0_off4 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32_1 : BitVec 32 := 0#32
  let c1_i32 : BitVec 32 := 1#32
  let arg7 : BitVec 32 := Scf.iv c0_i32_1 c1_i32 k0_t1
  let c128_i32_1257 : BitVec 32 := 128#32
  let v2108 : BitVec 32 := Scalar.addi arg7 c128_i32_1257
  let v2112 : BitVec 32 := Scalar.addi v0 v2108
  let v2113 : Index := Scalar.indexCast v2112
  ![v2113.toNat]
def k0_off5 (k0_t1 : Fin k0_t1_loop.trips) : Fin 3 → Nat :=
  let c0_1277 : Index := 0#32
  let c0_i32_1 : BitVec 32 := 0#32
  let c1_i32 : BitVec 32 := 1#32
  let arg7 : BitVec 32 := Scf.iv c0_i32_1 c1_i32 k0_t1
  let v2181 : Index := Scalar.indexCast arg7
  let c0_1278 : Index := 0#32
  ![0, v2181.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7168x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x56x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S56000x128 : Shape := ⟨2, ![56000, 128]⟩
abbrev S2000 : Shape := ⟨1, ![2000]⟩
abbrev S2000x28x2x64 : Shape := ⟨4, ![2000, 28, 2, 64]⟩
abbrev S2000x2x28x64 : Shape := ⟨4, ![2000, 2, 28, 64]⟩
abbrev S2000x56x64 : Shape := ⟨3, ![2000, 56, 64]⟩
abbrev S2000x56x48 : Shape := ⟨3, ![2000, 56, 48]⟩
abbrev S2000x56x48x4 : Shape := ⟨4, ![2000, 56, 48, 4]⟩
abbrev S2000x56x192 : Shape := ⟨3, ![2000, 56, 192]⟩
abbrev S2000x56x6 : Shape := ⟨3, ![2000, 56, 6]⟩
abbrev S2000x56x6x32 : Shape := ⟨4, ![2000, 56, 6, 32]⟩
abbrev S2000x56x6x1 : Shape := ⟨4, ![2000, 56, 6, 1]⟩
abbrev S_ : Shape := ⟨0, ![]⟩
abbrev S2000x56 : Shape := ⟨2, ![2000, 56]⟩
abbrev S2000x56x56 : Shape := ⟨3, ![2000, 56, 56]⟩
abbrev S2000x56x1 : Shape := ⟨3, ![2000, 56, 1]⟩
abbrev S2000x1x56 : Shape := ⟨3, ![2000, 1, 56]⟩
abbrev S56 : Shape := ⟨1, ![56]⟩
abbrev S1x56 : Shape := ⟨2, ![1, 56]⟩
abbrev S2000x1 : Shape := ⟨2, ![2000, 1]⟩
abbrev S56x56x2000 : Shape := ⟨3, ![56, 56, 2000]⟩

abbrev nBuf : Space → Nat
  | .hbm => 48
  | .vmem => 0
  | .smem => 0
  | _ => 0

abbrev bufTy : (tb : Table) → Fin (tcTables nBuf tb) → BufTy
  | .hbm, ⟨0, _⟩ => ⟨S56000x128, .i32⟩
  | .hbm, ⟨1, _⟩ => ⟨S2000, .i32⟩
  | .hbm, ⟨2, _⟩ => ⟨S2000x28x2x64, .i32⟩
  | .hbm, ⟨3, _⟩ => ⟨S2000x2x28x64, .i32⟩
  | .hbm, ⟨4, _⟩ => ⟨S2000x56x64, .i32⟩
  | .hbm, ⟨5, _⟩ => ⟨S2000x56x48, .i32⟩
  | .hbm, ⟨6, _⟩ => ⟨S2000x56x48x4, .i8⟩
  | .hbm, ⟨7, _⟩ => ⟨S2000x56x192, .i8⟩
  | .hbm, ⟨8, _⟩ => ⟨S2000x56x6, .i32⟩
  | .hbm, ⟨9, _⟩ => ⟨S2000x56x6, .f32⟩
  | .hbm, ⟨10, _⟩ => ⟨S2000x56x192, .i32⟩
  | .hbm, ⟨11, _⟩ => ⟨S2000x56x192, .bf16⟩
  | .hbm, ⟨12, _⟩ => ⟨S2000x56x6x32, .bf16⟩
  | .hbm, ⟨13, _⟩ => ⟨S2000x56x6, .bf16⟩
  | .hbm, ⟨14, _⟩ => ⟨S2000x56x6x1, .bf16⟩
  | .hbm, ⟨15, _⟩ => ⟨S2000x56x6x32, .bf16⟩
  | .hbm, ⟨16, _⟩ => ⟨S2000x56x6x32, .bf16⟩
  | .hbm, ⟨17, _⟩ => ⟨S2000x56x192, .bf16⟩
  | .hbm, ⟨18, _⟩ => ⟨S2000x56x192, .f32⟩
  | .hbm, ⟨19, _⟩ => ⟨S2000x56x192, .f32⟩
  | .hbm, ⟨20, _⟩ => ⟨S_, .f32⟩
  | .hbm, ⟨21, _⟩ => ⟨S2000x56, .f32⟩
  | .hbm, ⟨22, _⟩ => ⟨S2000x56x56, .f32⟩
  | .hbm, ⟨23, _⟩ => ⟨S2000x56x1, .f32⟩
  | .hbm, ⟨24, _⟩ => ⟨S2000x1x56, .f32⟩
  | .hbm, ⟨25, _⟩ => ⟨S2000x56x56, .f32⟩
  | .hbm, ⟨26, _⟩ => ⟨S2000x56x56, .f32⟩
  | .hbm, ⟨27, _⟩ => ⟨S2000x56x56, .f32⟩
  | .hbm, ⟨28, _⟩ => ⟨S_, .f32⟩
  | .hbm, ⟨29, _⟩ => ⟨S2000x56x56, .f32⟩
  | .hbm, ⟨30, _⟩ => ⟨S2000x56x56, .f32⟩
  | .hbm, ⟨31, _⟩ => ⟨S2000x56x56, .f32⟩
  | .hbm, ⟨32, _⟩ => ⟨S56, .i32⟩
  | .hbm, ⟨33, _⟩ => ⟨S1x56, .i32⟩
  | .hbm, ⟨34, _⟩ => ⟨S2000x1, .i32⟩
  | .hbm, ⟨35, _⟩ => ⟨S2000x56, .i32⟩
  | .hbm, ⟨36, _⟩ => ⟨S2000x56, .i32⟩
  | .hbm, ⟨37, _⟩ => ⟨S2000x56, .i1⟩
  | .hbm, ⟨38, _⟩ => ⟨S2000x56x1, .i1⟩
  | .hbm, ⟨39, _⟩ => ⟨S2000x1x56, .i1⟩
  | .hbm, ⟨40, _⟩ => ⟨S2000x56x56, .i1⟩
  | .hbm, ⟨41, _⟩ => ⟨S2000x56x56, .i1⟩
  | .hbm, ⟨42, _⟩ => ⟨S2000x56x56, .i1⟩
  | .hbm, ⟨43, _⟩ => ⟨S_, .f32⟩
  | .hbm, ⟨44, _⟩ => ⟨S_, .f32⟩
  | .hbm, ⟨45, _⟩ => ⟨S2000x56x56, .f32⟩
  | .hbm, ⟨46, _⟩ => ⟨S2000x56x56, .f32⟩
  | .hbm, ⟨47, _⟩ => ⟨S56x56x2000, .f32⟩
  | _, _ => ⟨S56000x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_0 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_cst_1 : Ref sig .tc := ⟨.hbm, 43, rfl⟩
abbrev main_call0_v0 : Ref sig .tc := ⟨.hbm, 44, rfl⟩
abbrev main_call0_v1 : Ref sig .tc := ⟨.hbm, 45, rfl⟩
abbrev main_v39 : Ref sig .tc := ⟨.hbm, 46, rfl⟩
abbrev main_v40 : Ref sig .tc := ⟨.hbm, 47, rfl⟩

abbrev nD : Nat := 1
abbrev τ : Topo := Topo.v7x

variable {F : FTy → Type} [FloatOps F]
-- ==== Proof.RunK.lean ====
module

public import proofs.«01_k».proof.Proof.Gen.Kernel.Frame
public import proofs.«01_k».proof.Proof.Gen.Kernel.Loops
public import Idealize.ShloMosaic.Lib.Tactic

@[expose] public section

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- What the body leaves in the output staging buffer, with its run. -/
noncomputable def kernelRun (c : Dev nD) (i : grid0.Coords)
    (arg1 : Memref sig .tc .smem S2048 .i32) (harg1 : arg1.IsWhole) (arg2 : Memref sig .tc .vmem S1x256 .i32) (harg2 : arg2.IsWhole) (arg3 : Memref sig .tc .vmem S7168x128 .i32) (harg3 : arg3.IsWhole) (arg4 : Memref sig .tc .vmem S56x56x256 .f32) (harg4 : arg4.IsWhole) (arg5 : Memref sig .tc .vmem S56x128x128 .f32) (harg5 : arg5.IsWhole) (arg6 : Memref sig .tc .vmem S56x256 .f32) (harg6 : arg6.IsWhole)
    (f1 : Bf (F := F) c arg1) (f2 : Bf (F := F) c arg2) (f3 : Bf (F := F) c arg3) (f5 : Bf (F := F) c arg5) :
    { L : List (View.Piece (Elt F) S56x56x256 .f32) //
      ∀ (f4 : Bf (F := F) c arg4) (f6 : Bf (F := F) c arg6) (E : Set ℕ) (Q : PUnit → sProp 𝕄),
        iprop(pt c arg1 f1 ∗ pt c arg2 f2 ∗ pt c arg3 f3 ∗ pt c arg4 f4 ∗ pt c arg5 f5 ∗ pt c arg6 f6
          ∗ (iprop(pt c arg1 f1 ∗ pt c arg2 f2 ∗ pt c arg3 f3 ∗ pt c arg4 (arg4.view.writes (Elt F) f4 L)
                ∗ (∃ f, pt c arg5 f) ∗ (∃ f, pt c arg6 f)) -∗ Q ⟨⟩))
        ⊢ wp frame (wpE (defs₀ (F := F)) Variants.none c none) E
            (cc0_distances i arg1 harg1 arg2 harg2 arg3 harg3 arg4 harg4 arg5 harg5 arg6 harg6) Q } := by
  refine ⟨?_, fun f4 f6 E Q => ?run⟩
  case run =>
    iintro ⟨H1, H2, H3, H4, H5, H6, Hk⟩
    rw [cc0_distances_eq_skeleton]; unfold cc0_distances_skel
    sl_exec_parts
    sl_step
    iapply Hk
    isplitl [H1]; · iexact H1
    isplitl [H2]; · iexact H2
    isplitl [H3]; · iexact H3
    isplitl [H4]; · iexact H4
    isplitl [H5]; · iexists _; iexact H5
    iexists _; iexact H6

end Cert.Kernel.Hand

end
-- ==== Proof.BodyK.lean ====
module

public import proofs.«01_k».proof.Proof.RunK

@[expose] public section

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The body on any whole buffers: the three inputs are left as found, the result is left at contents of which
    `Good` holds, for any `Good` that holds of the found pieces laid over anything. -/
theorem body_owns (c : Dev nD) (i : grid0.Coords)
    (arg1 : Memref sig .tc .smem S2048 .i32) (harg1 : arg1.IsWhole) (arg2 : Memref sig .tc .vmem S1x256 .i32) (harg2 : arg2.IsWhole) (arg3 : Memref sig .tc .vmem S7168x128 .i32) (harg3 : arg3.IsWhole) (arg4 : Memref sig .tc .vmem S56x56x256 .f32) (harg4 : arg4.IsWhole) (arg5 : Memref sig .tc .vmem S56x128x128 .f32) (harg5 : arg5.IsWhole) (arg6 : Memref sig .tc .vmem S56x256 .f32) (harg6 : arg6.IsWhole)
    (X1 : S2048.Idx → Elt F .i32) (X2 : S1x256.Idx → Elt F .i32) (X3 : S7168x128.Idx → Elt F .i32)
    (Good : (S56x56x256.Idx → Elt F .f32) → Prop)
    (hgood : ∀ (f1 : Bf (F := F) c arg1) (f2 : Bf (F := F) c arg2) (f3 : Bf (F := F) c arg3) (f4 : Bf (F := F) c arg4) (f5 : Bf (F := F) c arg5),
      arg1.view.read (Elt F) f1 = X1 → arg2.view.read (Elt F) f2 = X2 → arg3.view.read (Elt F) f3 = X3 →
      Good (arg4.view.read (Elt F) (arg4.view.writes (Elt F) f4
        (kernelRun c i arg1 harg1 arg2 harg2 arg3 harg3 arg4 harg4 arg5 harg5 arg6 harg6 f1 f2 f3 f5).1)))
    (E : Set ℕ) (Q : PUnit → sProp 𝕄) :
    iprop(owns (c : Thread nD τ) arg1 fullShare X1 ∗ owns (c : Thread nD τ) arg2 fullShare X2 ∗ owns (c : Thread nD τ) arg3 fullShare X3
        ∗ (∃ X, owns (c : Thread nD τ) arg4 fullShare X) ∗ (∃ f, pt c arg5 f) ∗ (∃ f, pt c arg6 f)
        ∗ (iprop(owns (c : Thread nD τ) arg1 fullShare X1 ∗ owns (c : Thread nD τ) arg2 fullShare X2 ∗ owns (c : Thread nD τ) arg3 fullShare X3
              ∗ (∃ X, ⌜Good X⌝ ∗ owns (c : Thread nD τ) arg4 fullShare X) ∗ (∃ f, pt c arg5 f) ∗ (∃ f, pt c arg6 f)) -∗ Q ⟨⟩))
      ⊢ wp frame (wpE (defs₀ (F := F)) Variants.none c none) E
          (cc0_distances i arg1 harg1 arg2 harg2 arg3 harg3 arg4 harg4 arg5 harg5 arg6 harg6) Q := by
  unfold owns
  iintro ⟨⟨%f1, %h1, H1⟩, ⟨%f2, %h2, H2⟩, ⟨%f3, %h3, H3⟩, ⟨%X4, %f4, %h4, H4⟩, ⟨%f5, H5⟩, ⟨%f6, H6⟩, Hk⟩
  iapply ((kernelRun c i arg1 harg1 arg2 harg2 arg3 harg3 arg4 harg4 arg5 harg5 arg6 harg6 f1 f2 f3 f5).2 f4 f6 E Q)
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, H6⟩
  iapply Hk
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]
  · iexists _; isplitr; · ipureintro; exact hgood f1 f2 f3 f4 f5 h1 h2 h3
    iexists _; isplitr; · ipureintro; rfl
    iexact H4
  isplitl [H5]; · iexact H5
  iexact H6

/-! ## The proof data -/

variable (m : (ℓ : Loc nD τ sig) → Buf (Elt F) ℓ)

/-- The rows' block at point `t`: its part inside the array as fetched, filled out with the zero word. -/
def rowsBlk (c : Dev nD) (t : Fin cfg0.N) : S7168x128.Idx → Elt F .i32 :=
  win0_2.fill (grid0.coords t) (fun _ => (0#32 : BitVec 32)) (iblk m c 2 t)

/-- The proof data of the one pipeline: the arrays as the region finds them, each input's buffer left at its block,
    the result's left at `A3`; the two scratch buffers at anything between points. -/
def dats (A3 : (c : Dev nD) → (t : Fin cfg0.N) → S56x56x256.Idx → Elt F .f32) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowsBlk m c t
    | ⟨3, _⟩ => A3 c t
  Φ _ := Pipeline.ΦA spec0 c
  q _ := fullShare
  owed _ := 0

variable (A3 : (c : Dev nD) → (t : Fin cfg0.N) → S56x56x256.Idx → Elt F .f32)

theorem fetch0_2' (t : Fin cfg0.N) : (cfg0.win (2 : Fin 4)).fetch t = true := by
  rcases fin_N0 t with rfl | rfl | rfl | rfl | rfl | rfl | rfl | rfl <;> decide

theorem before0 (c : Dev nD) (t : Fin cfg0.N) (d) : (dats m A3 0 c).before (0 : Fin 4) t d = iblk m c 0 t :=
  before0_0_of m _ rfl (fun _ => rfl) t d
theorem before1 (c : Dev nD) (t : Fin cfg0.N) (d) : (dats m A3 0 c).before (1 : Fin 4) t d = iblk m c 1 t :=
  before0_1_of m _ rfl (fun _ => rfl) t d
/-- The rows' buffer, just fetched: the block inside the array, `d` past its end. -/
theorem before2 (c : Dev nD) (t : Fin cfg0.N) (d) :
    (dats m A3 0 c).before (2 : Fin 4) t d = win0_2.fill (grid0.coords t) d (iblk m c 2 t) := by
  unfold Dat.before; rw [if_pos (fetch0_2' t)]; rfl

/-- The result's window, the one a frame run forgets. -/
def fgt3 : Fin cfg0.W → Bool := fun | 0 => false | 1 => false | 2 => false | 3 => true | ⟨_ + 4, h⟩ => absurd h (Nat.not_lt.2 (Nat.le_add_left _ _))

theorem scoped_in (c : Dev nD) : (Pipeline.ΦA spec0 c : sProp 𝕄)
    = iprop(((∃ f, pt (F := F) c (Memref.whole cc0_scratch0) f) ∗ (∃ f, pt c (Memref.whole cc0_scratch1) f)) ∗ ∃ r, prngReg c r) := by
  unfold Pipeline.ΦA
  rw [scopedRest0_eq]
  simp only [pt, View.set_whole, Memref.whole]

/-- The body's obligation with the result's window forgotten. -/
theorem body_forget (c : Dev nD) : BodyObligationLoose (dats m A3 0 c) (defs₀ (F := F)) Variants.none () Set.univ fgt3 := fun t => by
  rw [bigSep_W0, bigSep_W0]
  simp only [fgt3]
  rw [show (dats m A3 0 c).Φ t.castSucc = Pipeline.ΦA spec0 c from rfl, show (dats m A3 0 c).Φ t.succ = Pipeline.ΦA spec0 c from rfl,
    show (dats m A3 0 c).owesAt () t.succ = (dats m A3 0 c).owesAt () t.castSucc from rfl, scoped_in]
  iintro ⟨⟨⟨H5, H6⟩, Hg⟩, Ho, ⟨%d0, H0⟩, ⟨%d1, H1⟩, ⟨%d2, H2⟩, H3⟩
  rw [before0 m A3 c t d0, before1 m A3 c t d1, before2 m A3 c t d2]
  iapply (body_owns (F := F) c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (Memref.whole cc0_scratch0) (Memref.isWhole_whole _) (Memref.whole cc0_scratch1) (Memref.isWhole_whole _)
    (iblk m c 0 t) (iblk m c 1 t) (win0_2.fill (grid0.coords t) d2 (iblk m c 2 t)) (fun _ => True)
    (fun _ _ _ _ _ _ _ _ => trivial) Set.univ _)
  isplitl [H0]; · iexact H0
  isplitl [H1]; · iexact H1
  isplitl [H2]; · iexact H2
  isplitl [H3]; · iexact H3
  isplitl [H5]; · iexact H5
  isplitl [H6]; · iexact H6
  iintro ⟨H0, H1, H2, ⟨%X, -, H3⟩, H5, H6⟩
  isplitl [H5 H6 Hg]
  · isplitr [Hg]
    · isplitl [H5]; · iexact H5
      iexact H6
    · iexact Hg
  isplitl [Ho]; · iexact Ho
  isplitl [H0]; · iexact H0
  isplitl [H1]; · iexact H1
  isplitl [H2]
  · iexists d2
    change _ ⊢ owns (c : Thread nD τ) (win0_2.stage (cfg0.slots t 2)) fullShare (win0_2.fill (grid0.coords t) d2 (win0_2.cut (grid0.coords t) (rowsBlk m c t)))
    rw [show win0_2.cut (grid0.coords t) (rowsBlk m c t) = iblk m c 2 t from win0_2.cut_fill _ _ _]
    try iexact H2
  · iexists X; iexact H3

variable (ρ : Dev nD → PrngReg)

/-- From any memory with zero counters, for any float values: @main terminates without a fault, both argument
    arrays end unchanged and every semaphore counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_forget cfgs (dats m fun _ _ _ => Scalar.ofBits .f32 0#32) 0 launch0 defs₀ Variants.none fgt3 m ρ main
    (hbody := body_forget m _)
    (hshare := fun c => (dats m _ 0 c).share_full fun _ => rfl) (howed := fun _ _ => rfl)
    (V := V m) (hmain := hmain m Variants.none) (hA := fun _ _ => rfl) (hΦ := fun _ _ => rfl)
    (Q' := fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)
    (hQ' := fun _ h => ⟨fun c => ⟨(Pipeline.RDat.FramePost.arr_in h.1 c 2 rfl).trans (V_main_arg0 m c),
      ((h.1 c).2 main_arg1 (Pipeline.mem_restRefs_of main_arg1 (by decide) (by decide))).trans (V_main_arg1 m c)⟩, h.2⟩)

end Cert.Kernel.Hand

end
-- ==== Proof.RunI.lean ====
module

public import proofs.«01_k».proof.Proof.Gen.KernelIdeal.Frame
public import proofs.«01_k».proof.Proof.Gen.KernelIdeal.Loops
public import Idealize.ShloMosaic.Lib.Tactic

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- What the body leaves in the output staging buffer, with its run. -/
noncomputable def kernelRun (c : Dev nD) (i : grid0.Coords)
    (arg1 : Memref sig .tc .smem S2048 .i32) (harg1 : arg1.IsWhole) (arg2 : Memref sig .tc .vmem S1x256 .i32) (harg2 : arg2.IsWhole) (arg3 : Memref sig .tc .vmem S7168x128 .i32) (harg3 : arg3.IsWhole) (arg4 : Memref sig .tc .vmem S56x56x256 .f32) (harg4 : arg4.IsWhole) (arg5 : Memref sig .tc .vmem S56x128x128 .f32) (harg5 : arg5.IsWhole) (arg6 : Memref sig .tc .vmem S56x256 .f32) (harg6 : arg6.IsWhole)
    (f1 : Bf (F := F) c arg1) (f2 : Bf (F := F) c arg2) (f3 : Bf (F := F) c arg3) (f5 : Bf (F := F) c arg5) :
    { L : List (View.Piece (Elt F) S56x56x256 .f32) //
      ∀ (f4 : Bf (F := F) c arg4) (f6 : Bf (F := F) c arg6) (E : Set ℕ) (Q : PUnit → sProp 𝕄),
        iprop(pt c arg1 f1 ∗ pt c arg2 f2 ∗ pt c arg3 f3 ∗ pt c arg4 f4 ∗ pt c arg5 f5 ∗ pt c arg6 f6
          ∗ (iprop(pt c arg1 f1 ∗ pt c arg2 f2 ∗ pt c arg3 f3 ∗ pt c arg4 (arg4.view.writes (Elt F) f4 L)
                ∗ (∃ f, pt c arg5 f) ∗ (∃ f, pt c arg6 f)) -∗ Q ⟨⟩))
        ⊢ wp frame (wpE (defs₀ (F := F)) Variants.none c none) E
            (cc0_distances i arg1 harg1 arg2 harg2 arg3 harg3 arg4 harg4 arg5 harg5 arg6 harg6) Q } := by
  refine ⟨?_, fun f4 f6 E Q => ?run⟩
  case run =>
    iintro ⟨H1, H2, H3, H4, H5, H6, Hk⟩
    rw [cc0_distances_eq_skeleton]; unfold cc0_distances_skel
    sl_exec_parts
    sl_step
    iapply Hk
    isplitl [H1]; · iexact H1
    isplitl [H2]; · iexact H2
    isplitl [H3]; · iexact H3
    isplitl [H4]; · iexact H4
    isplitl [H5]; · iexists _; iexact H5
    iexists _; iexact H6

end Cert.KernelIdeal.Hand

end
-- ==== Proof.BodyI.lean ====
module

public import proofs.«01_k».proof.Proof.RunI

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The body on any whole buffers: the three inputs are left as found, the result is left at contents of which
    `Good` holds, for any `Good` that holds of the found pieces laid over anything. -/
theorem body_owns (c : Dev nD) (i : grid0.Coords)
    (arg1 : Memref sig .tc .smem S2048 .i32) (harg1 : arg1.IsWhole) (arg2 : Memref sig .tc .vmem S1x256 .i32) (harg2 : arg2.IsWhole) (arg3 : Memref sig .tc .vmem S7168x128 .i32) (harg3 : arg3.IsWhole) (arg4 : Memref sig .tc .vmem S56x56x256 .f32) (harg4 : arg4.IsWhole) (arg5 : Memref sig .tc .vmem S56x128x128 .f32) (harg5 : arg5.IsWhole) (arg6 : Memref sig .tc .vmem S56x256 .f32) (harg6 : arg6.IsWhole)
    (X1 : S2048.Idx → Elt F .i32) (X2 : S1x256.Idx → Elt F .i32) (X3 : S7168x128.Idx → Elt F .i32)
    (Good : (S56x56x256.Idx → Elt F .f32) → Prop)
    (hgood : ∀ (f1 : Bf (F := F) c arg1) (f2 : Bf (F := F) c arg2) (f3 : Bf (F := F) c arg3) (f4 : Bf (F := F) c arg4) (f5 : Bf (F := F) c arg5),
      arg1.view.read (Elt F) f1 = X1 → arg2.view.read (Elt F) f2 = X2 → arg3.view.read (Elt F) f3 = X3 →
      Good (arg4.view.read (Elt F) (arg4.view.writes (Elt F) f4
        (kernelRun c i arg1 harg1 arg2 harg2 arg3 harg3 arg4 harg4 arg5 harg5 arg6 harg6 f1 f2 f3 f5).1)))
    (E : Set ℕ) (Q : PUnit → sProp 𝕄) :
    iprop(owns (c : Thread nD τ) arg1 fullShare X1 ∗ owns (c : Thread nD τ) arg2 fullShare X2 ∗ owns (c : Thread nD τ) arg3 fullShare X3
        ∗ (∃ X, owns (c : Thread nD τ) arg4 fullShare X) ∗ (∃ f, pt c arg5 f) ∗ (∃ f, pt c arg6 f)
        ∗ (iprop(owns (c : Thread nD τ) arg1 fullShare X1 ∗ owns (c : Thread nD τ) arg2 fullShare X2 ∗ owns (c : Thread nD τ) arg3 fullShare X3
              ∗ (∃ X, ⌜Good X⌝ ∗ owns (c : Thread nD τ) arg4 fullShare X) ∗ (∃ f, pt c arg5 f) ∗ (∃ f, pt c arg6 f)) -∗ Q ⟨⟩))
      ⊢ wp frame (wpE (defs₀ (F := F)) Variants.none c none) E
          (cc0_distances i arg1 harg1 arg2 harg2 arg3 harg3 arg4 harg4 arg5 harg5 arg6 harg6) Q := by
  unfold owns
  iintro ⟨⟨%f1, %h1, H1⟩, ⟨%f2, %h2, H2⟩, ⟨%f3, %h3, H3⟩, ⟨%X4, %f4, %h4, H4⟩, ⟨%f5, H5⟩, ⟨%f6, H6⟩, Hk⟩
  iapply ((kernelRun c i arg1 harg1 arg2 harg2 arg3 harg3 arg4 harg4 arg5 harg5 arg6 harg6 f1 f2 f3 f5).2 f4 f6 E Q)
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, H6⟩
  iapply Hk
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]
  · iexists _; isplitr; · ipureintro; exact hgood f1 f2 f3 f4 f5 h1 h2 h3
    iexists _; isplitr; · ipureintro; rfl
    iexact H4
  isplitl [H5]; · iexact H5
  iexact H6

/-! ## The proof data -/

variable (m : (ℓ : Loc nD τ sig) → Buf (Elt F) ℓ)

/-- The rows' block at point `t`: its part inside the array as fetched, filled out with the zero word. -/
def rowsBlk (c : Dev nD) (t : Fin cfg0.N) : S7168x128.Idx → Elt F .i32 :=
  win0_2.fill (grid0.coords t) (fun _ => (0#32 : BitVec 32)) (iblk m c 2 t)

/-- The proof data of the one pipeline: the arrays as the region finds them, each input's buffer left at its block,
    the result's left at `A3`; the two scratch buffers at anything between points. -/
def dats (A3 : (c : Dev nD) → (t : Fin cfg0.N) → S56x56x256.Idx → Elt F .f32) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowsBlk m c t
    | ⟨3, _⟩ => A3 c t
  Φ _ := Pipeline.ΦA spec0 c
  q _ := fullShare
  owed _ := 0

variable (A3 : (c : Dev nD) → (t : Fin cfg0.N) → S56x56x256.Idx → Elt F .f32)

theorem fetch0_2' (t : Fin cfg0.N) : (cfg0.win (2 : Fin 4)).fetch t = true := by
  rcases fin_N0 t with rfl | rfl | rfl | rfl | rfl | rfl | rfl | rfl <;> decide

theorem before0 (c : Dev nD) (t : Fin cfg0.N) (d) : (dats m A3 0 c).before (0 : Fin 4) t d = iblk m c 0 t :=
  before0_0_of m _ rfl (fun _ => rfl) t d
theorem before1 (c : Dev nD) (t : Fin cfg0.N) (d) : (dats m A3 0 c).before (1 : Fin 4) t d = iblk m c 1 t :=
  before0_1_of m _ rfl (fun _ => rfl) t d
/-- The rows' buffer, just fetched: the block inside the array, `d` past its end. -/
theorem before2 (c : Dev nD) (t : Fin cfg0.N) (d) :
    (dats m A3 0 c).before (2 : Fin 4) t d = win0_2.fill (grid0.coords t) d (iblk m c 2 t) := by
  unfold Dat.before; rw [if_pos (fetch0_2' t)]; rfl

/-- The result's window, the one a frame run forgets. -/
def fgt3 : Fin cfg0.W → Bool := fun | 0 => false | 1 => false | 2 => false | 3 => true | ⟨_ + 4, h⟩ => absurd h (Nat.not_lt.2 (Nat.le_add_left _ _))

theorem scoped_in (c : Dev nD) : (Pipeline.ΦA spec0 c : sProp 𝕄)
    = iprop(((∃ f, pt (F := F) c (Memref.whole cc0_scratch0) f) ∗ (∃ f, pt c (Memref.whole cc0_scratch1) f)) ∗ ∃ r, prngReg c r) := by
  unfold Pipeline.ΦA
  rw [scopedRest0_eq]
  simp only [pt, View.set_whole, Memref.whole]

/-- The body's obligation with the result's window forgotten. -/
theorem body_forget (c : Dev nD) : BodyObligationLoose (dats m A3 0 c) (defs₀ (F := F)) Variants.none () Set.univ fgt3 := fun t => by
  rw [bigSep_W0, bigSep_W0]
  simp only [fgt3]
  rw [show (dats m A3 0 c).Φ t.castSucc = Pipeline.ΦA spec0 c from rfl, show (dats m A3 0 c).Φ t.succ = Pipeline.ΦA spec0 c from rfl,
    show (dats m A3 0 c).owesAt () t.succ = (dats m A3 0 c).owesAt () t.castSucc from rfl, scoped_in]
  iintro ⟨⟨⟨H5, H6⟩, Hg⟩, Ho, ⟨%d0, H0⟩, ⟨%d1, H1⟩, ⟨%d2, H2⟩, H3⟩
  rw [before0 m A3 c t d0, before1 m A3 c t d1, before2 m A3 c t d2]
  iapply (body_owns (F := F) c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (Memref.whole cc0_scratch0) (Memref.isWhole_whole _) (Memref.whole cc0_scratch1) (Memref.isWhole_whole _)
    (iblk m c 0 t) (iblk m c 1 t) (win0_2.fill (grid0.coords t) d2 (iblk m c 2 t)) (fun _ => True)
    (fun _ _ _ _ _ _ _ _ => trivial) Set.univ _)
  isplitl [H0]; · iexact H0
  isplitl [H1]; · iexact H1
  isplitl [H2]; · iexact H2
  isplitl [H3]; · iexact H3
  isplitl [H5]; · iexact H5
  isplitl [H6]; · iexact H6
  iintro ⟨H0, H1, H2, ⟨%X, -, H3⟩, H5, H6⟩
  isplitl [H5 H6 Hg]
  · isplitr [Hg]
    · isplitl [H5]; · iexact H5
      iexact H6
    · iexact Hg
  isplitl [Ho]; · iexact Ho
  isplitl [H0]; · iexact H0
  isplitl [H1]; · iexact H1
  isplitl [H2]
  · iexists d2
    change _ ⊢ owns (c : Thread nD τ) (win0_2.stage (cfg0.slots t 2)) fullShare (win0_2.fill (grid0.coords t) d2 (win0_2.cut (grid0.coords t) (rowsBlk m c t)))
    rw [show win0_2.cut (grid0.coords t) (rowsBlk m c t) = iblk m c 2 t from win0_2.cut_fill _ _ _]
    try iexact H2
  · iexists X; iexact H3

variable (ρ : Dev nD → PrngReg)

/-- From any memory with zero counters, for any float values: @main terminates without a fault, both argument
    arrays end unchanged and every semaphore counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_forget cfgs (dats m fun _ _ _ => Scalar.ofBits .f32 0#32) 0 launch0 defs₀ Variants.none fgt3 m ρ main
    (hbody := body_forget m _)
    (hshare := fun c => (dats m _ 0 c).share_full fun _ => rfl) (howed := fun _ _ => rfl)
    (V := V m) (hmain := hmain m Variants.none) (hA := fun _ _ => rfl) (hΦ := fun _ _ => rfl)
    (Q' := fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)
    (hQ' := fun _ h => ⟨fun c => ⟨(Pipeline.RDat.FramePost.arr_in h.1 c 2 rfl).trans (V_main_arg0 m c),
      ((h.1 c).2 main_arg1 (Pipeline.mem_restRefs_of main_arg1 (by decide) (by decide))).trans (V_main_arg1 m c)⟩, h.2⟩)

end Cert.KernelIdeal.Hand

end
-- ==== Proof.Load.lean ====
module

public import proofs.«01_k».proof.Proof.Gen.KernelIdeal.Frame
public import proofs.«01_k».proof.Proof.Gen.KernelIdeal.Loops
public import Idealize.ShloMosaic.Lib.Pointwise

@[expose] public section

noncomputable section

namespace Cert.KernelIdeal.Hand

open Cert.KernelIdeal Cert.KernelIdeal.Gen Idealize.ShloMosaic
open scoped BigOperators

/-- The word of slot `s` at place `q` of its half row, in a node's 28 packed rows. -/
def wordAt (w : S28x128.Idx → BitVec 32) (s q : ℕ) (hs : s < 56) (hq : q < 64) : BitVec 32 :=
  w (ix2 (⟨s % 28, by omega⟩ : Fin 28) (⟨64 * (s / 28) + q, by omega⟩ : Fin 128))

/-- Byte `b` of a word as a signed number. -/
def byteAt (w : BitVec 32) (b : ℕ) : EReal :=
  FloatOps.sitofp (F := Ideal) .f32 (IntOp.shrsi .vector (IntOp.shli .vector w (BitVec.ofNat 32 (24 - 8 * b))) 24#32)

/-- The scale the kernel uses for slot `s`, word `q`: zero for a dead slot and for the words behind the codes. -/
def scaleAt (w : S28x128.Idx → BitVec 32) (cnt : BitVec 32) (s q : ℕ) (hs : s < 56) (hq : q < 64) : EReal :=
  if (BitVec.ofNat 32 s).slt cnt ∧ q < 48 then Ideal.ofBits .f32 (wordAt w s (48 + q / 8) hs (by omega)) else 0

/-- Entry `c` of the vector of slot `s`. -/
def vecAt (w : S28x128.Idx → BitVec 32) (cnt : BitVec 32) (s : Fin 56) (c : Fin 256) : EReal :=
  byteAt (wordAt w s.val (c.val % 64) s.isLt (Nat.mod_lt _ (by decide))) (c.val / 64)
    * scaleAt w cnt s.val (c.val % 64) s.isLt (Nat.mod_lt _ (by decide))

/-- The slot of row `r`, lane `l`. -/
theorem pay10_apply (r : Fin 28) (l : Fin 128) :
    k0_pay10 (ix2 r l : S28x128.Idx) = BitVec.ofNat 32 (r.val + 28 * (l.val / 64)) := by
  unfold k0_pay10
  pointwise
  have h : ∀ l : Fin 128, Scalar.select (IntOp.cmpi CmpIPredicate.slt (BitVec.ofNat 32 l.val) 64#32) 0#32 28#32
      = BitVec.ofNat 32 (28 * (l.val / 64)) := by decide
  rw [h l, BitVec.ofNat_add]
  rfl

/-- The lane that holds the scale of lane `l`, as the gather reads it. -/
theorem pay11_lane (r : Fin 28) (l : Fin 128) :
    (Scalar.select (IntOp.cmpi CmpIPredicate.slt (k0_pay11 (ix2 r l : S28x128.Idx)) 0#32)
      (IntOp.addi (k0_pay11 (ix2 r l : S28x128.Idx)) 128#32) (k0_pay11 (ix2 r l : S28x128.Idx))).toNat % 128
      = min (64 * (l.val / 64) + 48 + (l.val % 64) / 8) 127 := by
  unfold k0_pay11
  pointwise
  revert l; decide

/-- The words that hold codes. -/
theorem lane_live (l : Fin 128) :
    IntOp.cmpi CmpIPredicate.slt (IntOp.andi (BitVec.ofNat 32 l.val) 63#32) 48#32 = BitVec.ofBool (decide (l.val % 64 < 48)) := by
  revert l; decide

/-- The scale plane, at a row and a lane. -/
theorem pay2_apply (w : Vec Ideal S28x128 .i32) (cnt : BitVec 32) (s q : ℕ) (hs : s < 56) (hq : q < 64) :
    k0_pay2 (F := Ideal) (iota .tc S28x128 32 [1] iota_S28x128_d1_w32) k0_pay10 k0_pay11 w cnt
      (ix2 (⟨s % 28, by omega⟩ : Fin 28) (⟨64 * (s / 28) + q, by omega⟩ : Fin 128) : S28x128.Idx) = scaleAt w cnt s q hs hq := by
  unfold k0_pay2
  pointwise
  have hl := lane_live ⟨64 * (s / 28) + q, by omega⟩
  have h10 := pay10_apply ⟨s % 28, by omega⟩ ⟨64 * (s / 28) + q, by omega⟩
  have h11 := pay11_lane ⟨s % 28, by omega⟩ ⟨64 * (s / 28) + q, by omega⟩
  dsimp only at hl h10 h11
  rw [show s % 28 + 28 * ((64 * (s / 28) + q) / 64) = s by omega] at h10
  rw [show (64 * (s / 28) + q) % 64 = q by omega] at hl h11
  rw [show (64 * (s / 28) + q) / 64 = s / 28 by omega] at h11
  have hc : IntOp.andi (IntOp.cmpi CmpIPredicate.slt (k0_pay10 (ix2 (⟨s % 28, by omega⟩ : Fin 28) (⟨64 * (s / 28) + q, by omega⟩ : Fin 128) : S28x128.Idx)) cnt)
      (IntOp.cmpi CmpIPredicate.slt (IntOp.andi (BitVec.ofNat 32 (64 * (s / 28) + q)) 63#32) 48#32)
        = BitVec.ofBool (decide ((BitVec.ofNat 32 s).slt cnt ∧ q < 48)) := by
    rw [hl, h10]
    show BitVec.ofBool ((BitVec.ofNat 32 s).slt cnt) &&& _ = _
    cases (BitVec.ofNat 32 s).slt cnt <;> by_cases h : q < 48 <;> simp [h]
  by_cases hlive : (BitVec.ofNat 32 s).slt cnt ∧ q < 48
  · unfold scaleAt
    rw [if_pos hlive]
    rw [decide_eq_true hlive] at hc
    refine (congrArg (fun x => Scalar.select x _ _) hc).trans ?_
    refine congrArg (fun p => Ideal.ofBits .f32 (w (ix2 _ p))) (Fin.ext ?_)
    refine h11.trans ?_
    dsimp only
    omega
  · unfold scaleAt
    rw [if_neg hlive]
    rw [decide_eq_false hlive] at hc
    exact congrArg (fun x => Scalar.select x _ _) hc

/-- One byte plane times the scales, at a row and a lane. -/
theorem pay3_apply (w : Vec Ideal S28x128 .i32) (cnt : BitVec 32) (s q : ℕ) (hs : s < 56) (hq : q < 64) :
    k0_pay3 (F := Ideal) (iota .tc S28x128 32 [1] iota_S28x128_d1_w32) k0_pay10 k0_pay11 w cnt
      (ix2 (⟨s % 28, by omega⟩ : Fin 28) (⟨64 * (s / 28) + q, by omega⟩ : Fin 128) : S28x128.Idx)
      = byteAt (wordAt w s q hs hq) 0 * scaleAt w cnt s q hs hq := by
  unfold k0_pay3
  pointwise
  rw [pay2_apply]
  rfl

/-- The next byte plane. -/
theorem pay4_apply (w : Vec Ideal S28x128 .i32) (cnt : BitVec 32) (s q : ℕ) (hs : s < 56) (hq : q < 64) :
    k0_pay4 (F := Ideal) (iota .tc S28x128 32 [1] iota_S28x128_d1_w32) k0_pay10 k0_pay11 w cnt
      (ix2 (⟨s % 28, by omega⟩ : Fin 28) (⟨64 * (s / 28) + q, by omega⟩ : Fin 128) : S28x128.Idx)
      = byteAt (wordAt w s q hs hq) 1 * scaleAt w cnt s q hs hq := by
  unfold k0_pay4
  pointwise
  rw [pay2_apply]
  rfl

/-- The next byte plane. -/
theorem pay5_apply (w : Vec Ideal S28x128 .i32) (cnt : BitVec 32) (s q : ℕ) (hs : s < 56) (hq : q < 64) :
    k0_pay5 (F := Ideal) (iota .tc S28x128 32 [1] iota_S28x128_d1_w32) k0_pay10 k0_pay11 w cnt
      (ix2 (⟨s % 28, by omega⟩ : Fin 28) (⟨64 * (s / 28) + q, by omega⟩ : Fin 128) : S28x128.Idx)
      = byteAt (wordAt w s q hs hq) 2 * scaleAt w cnt s q hs hq := by
  unfold k0_pay5
  pointwise
  rw [pay2_apply]
  rfl

/-- One node's matrix of slot vectors, as the kernel builds it from the node's packed rows and its count. -/
def loadA (w : Vec Ideal S28x128 .i32) (cnt : BitVec 32) : FVec Ideal S56x256 .bf16 :=
  k0_pay6 (F := Ideal) w
    (k0_pay2 (iota .tc S28x128 32 [1] iota_S28x128_d1_w32) k0_pay10 k0_pay11 w cnt)
    (k0_pay3 (iota .tc S28x128 32 [1] iota_S28x128_d1_w32) k0_pay10 k0_pay11 w cnt)
    (k0_pay4 (iota .tc S28x128 32 [1] iota_S28x128_d1_w32) k0_pay10 k0_pay11 w cnt)
    (k0_pay5 (iota .tc S28x128 32 [1] iota_S28x128_d1_w32) k0_pay10 k0_pay11 w cnt)

/-- `pay2_apply` at a row and a lane given by their values. -/
theorem pay2_at (w : Vec Ideal S28x128 .i32) (cnt : BitVec 32) (s q : ℕ) (hs : s < 56) (hq : q < 64) (r : Fin 28) (l : Fin 128)
    (hr : r.val = s % 28) (hl : l.val = 64 * (s / 28) + q) :
    k0_pay2 (F := Ideal) (iota .tc S28x128 32 [1] iota_S28x128_d1_w32) k0_pay10 k0_pay11 w cnt (ix2 r l : S28x128.Idx) = scaleAt w cnt s q hs hq := by
  have hl' : 64 * (s / 28) + q < 128 := by clear hr hl; omega
  obtain rfl : r = ⟨s % 28, Nat.mod_lt _ (by decide)⟩ := Fin.ext hr
  obtain rfl : l = ⟨64 * (s / 28) + q, hl'⟩ := Fin.ext hl
  exact pay2_apply w cnt s q hs hq

/-- `pay3_apply` at a row and a lane given by their values. -/
theorem pay3_at (w : Vec Ideal S28x128 .i32) (cnt : BitVec 32) (s q : ℕ) (hs : s < 56) (hq : q < 64) (r : Fin 28) (l : Fin 128)
    (hr : r.val = s % 28) (hl : l.val = 64 * (s / 28) + q) :
    k0_pay3 (F := Ideal) (iota .tc S28x128 32 [1] iota_S28x128_d1_w32) k0_pay10 k0_pay11 w cnt (ix2 r l : S28x128.Idx) = byteAt (wordAt w s q hs hq) 0 * scaleAt w cnt s q hs hq := by
  have hl' : 64 * (s / 28) + q < 128 := by clear hr hl; omega
  obtain rfl : r = ⟨s % 28, Nat.mod_lt _ (by decide)⟩ := Fin.ext hr
  obtain rfl : l = ⟨64 * (s / 28) + q, hl'⟩ := Fin.ext hl
  exact pay3_apply w cnt s q hs hq

/-- `pay4_apply` at a row and a lane given by their values. -/
theorem pay4_at (w : Vec Ideal S28x128 .i32) (cnt : BitVec 32) (s q : ℕ) (hs : s < 56) (hq : q < 64) (r : Fin 28) (l : Fin 128)
    (hr : r.val = s % 28) (hl : l.val = 64 * (s / 28) + q) :
    k0_pay4 (F := Ideal) (iota .tc S28x128 32 [1] iota_S28x128_d1_w32) k0_pay10 k0_pay11 w cnt (ix2 r l : S28x128.Idx) = byteAt (wordAt w s q hs hq) 1 * scaleAt w cnt s q hs hq := by
  have hl' : 64 * (s / 28) + q < 128 := by clear hr hl; omega
  obtain rfl : r = ⟨s % 28, Nat.mod_lt _ (by decide)⟩ := Fin.ext hr
  obtain rfl : l = ⟨64 * (s / 28) + q, hl'⟩ := Fin.ext hl
  exact pay4_apply w cnt s q hs hq

/-- `pay5_apply` at a row and a lane given by their values. -/
theorem pay5_at (w : Vec Ideal S28x128 .i32) (cnt : BitVec 32) (s q : ℕ) (hs : s < 56) (hq : q < 64) (r : Fin 28) (l : Fin 128)
    (hr : r.val = s % 28) (hl : l.val = 64 * (s / 28) + q) :
    k0_pay5 (F := Ideal) (iota .tc S28x128 32 [1] iota_S28x128_d1_w32) k0_pay10 k0_pay11 w cnt (ix2 r l : S28x128.Idx) = byteAt (wordAt w s q hs hq) 2 * scaleAt w cnt s q hs hq := by
  have hl' : 64 * (s / 28) + q < 128 := by clear hr hl; omega
  obtain rfl : r = ⟨s % 28, Nat.mod_lt _ (by decide)⟩ := Fin.ext hr
  obtain rfl : l = ⟨64 * (s / 28) + q, hl'⟩ := Fin.ext hl
  exact pay5_apply w cnt s q hs hq

/-- The last byte plane times the scales, at a row and a lane given by their values. -/
theorem pay6_at (w : Vec Ideal S28x128 .i32) (cnt : BitVec 32) (s q : ℕ) (hs : s < 56) (hq : q < 64) (r : Fin 28) (l : Fin 128)
    (hr : r.val = s % 28) (hl : l.val = 64 * (s / 28) + q) :
    FloatOps.sitofp (F := Ideal) FTy.f32 (IntOp.shrsi ArithUnit.vector (IntOp.shli ArithUnit.vector (w (ix2 r l : S28x128.Idx)) 0#32) 24#32)
      * k0_pay2 (F := Ideal) (iota .tc S28x128 32 [1] iota_S28x128_d1_w32) k0_pay10 k0_pay11 w cnt (ix2 r l : S28x128.Idx)
      = byteAt (wordAt w s q hs hq) 3 * scaleAt w cnt s q hs hq := by
  rw [pay2_at w cnt s q hs hq r l hr hl]
  have hl' : 64 * (s / 28) + q < 128 := by clear hr hl; omega
  obtain rfl : r = ⟨s % 28, Nat.mod_lt _ (by decide)⟩ := Fin.ext hr
  obtain rfl : l = ⟨64 * (s / 28) + q, hl'⟩ := Fin.ext hl
  rfl

/-- The entries of a node's matrix. -/
theorem loadA_apply (w : Vec Ideal S28x128 .i32) (cnt : BitVec 32) (s : Fin 56) (c : Fin 256) :
    loadA w cnt (ix2 s c : S56x256.Idx) = vecAt w cnt s c := by
  have hs := s.isLt
  have hc := c.isLt
  unfold loadA k0_pay6
  pointwise
  unfold vecAt
  have hq : c.val % 64 < 64 := Nat.mod_lt _ (by decide)
  by_cases h0 : s.val < 28
  · refine (dif_pos h0).trans ?_
    by_cases h1 : c.val < 64
    · refine (dif_pos h1).trans ?_
      rw [show c.val / 64 = 0 by omega]
      exact pay3_at w cnt s.val (c.val % 64) s.isLt hq _ _ (by dsimp only; omega) (by dsimp only; omega)
    refine (dif_neg h1).trans ?_
    by_cases h2 : c.val - 64 < 64
    · refine (dif_pos h2).trans ?_
      rw [show c.val / 64 = 1 by omega]
      exact pay4_at w cnt s.val (c.val % 64) s.isLt hq _ _ (by dsimp only; omega) (by dsimp only; omega)
    refine (dif_neg h2).trans ?_
    by_cases h3 : c.val - 64 - 64 < 64
    · refine (dif_pos h3).trans ?_
      rw [show c.val / 64 = 2 by omega]
      exact pay5_at w cnt s.val (c.val % 64) s.isLt hq _ _ (by dsimp only; omega) (by dsimp only; omega)
    refine (dif_neg h3).trans ?_
    rw [show c.val / 64 = 3 by omega]
    exact pay6_at w cnt s.val (c.val % 64) s.isLt hq _ _ (by dsimp only; omega) (by dsimp only; omega)
  · refine (dif_neg h0).trans ?_
    by_cases h1 : c.val < 64
    · refine (dif_pos h1).trans ?_
      rw [show c.val / 64 = 0 by omega]
      exact pay3_at w cnt s.val (c.val % 64) s.isLt hq _ _ (by dsimp only; omega) (by dsimp only; omega)
    refine (dif_neg h1).trans ?_
    by_cases h2 : c.val - 64 < 64
    · refine (dif_pos h2).trans ?_
      rw [show c.val / 64 = 1 by omega]
      exact pay4_at w cnt s.val (c.val % 64) s.isLt hq _ _ (by dsimp only; omega) (by dsimp only; omega)
    refine (dif_neg h2).trans ?_
    by_cases h3 : c.val - 64 - 64 < 64
    · refine (dif_pos h3).trans ?_
      rw [show c.val / 64 = 2 by omega]
      exact pay5_at w cnt s.val (c.val % 64) s.isLt hq _ _ (by dsimp only; omega) (by dsimp only; omega)
    refine (dif_neg h3).trans ?_
    rw [show c.val / 64 = 3 by omega]
    exact pay6_at w cnt s.val (c.val % 64) s.isLt hq _ _ (by dsimp only; omega) (by dsimp only; omega)

/-- What one trip stores, from the matrices of its two nodes. -/
def gramPay (a b : FVec Ideal S56x256 .bf16) : FVec Ideal S56x1x128 .f32 :=
  have zero : FVec Ideal S8x256 .bf16 := broadcast S8x256 (Scalar.ofBits .bf16 0x0000#16)
  have both : FVec Ideal S128x256 .bf16 := concatenate S128x256 0 [⟨S56x256, a⟩, ⟨S8x256, zero⟩, ⟨S56x256, b⟩, ⟨S8x256, zero⟩] concatenates_S56x256_S8x256_S56x256_S8x256_S128x256_d0
  have ga : FVec Ideal S56x128 .f32 := matmul dot_S56x256_S128x256_S56x128_1_1_0_0_n_n none a both (constant S56x128 .f32 0x00000000#32)
  have gb : FVec Ideal S56x128 .f32 := matmul dot_S56x256_S128x256_S56x128_1_1_0_0_n_n none b both (constant S56x128 .f32 0x00000000#32)
  have sel : IVec S56x128 1 := cmpi .slt (iota .tc S56x128 32 [1] iota_S56x128_d1_w32) (broadcast S56x128 64#32)
  shapeCast S56x1x128 (shapeCast S56x1x128 (select sel ga gb) shapeCasts_S56x128_S56x1x128) shapeCasts_S56x1x128_S56x1x128

/-- The trip's payload is `gramPay` of its two nodes' matrices. -/
theorem pay9_eq (wa wb : Vec Ideal S28x128 .i32) (ca cb : BitVec 32) :
    k0_pay9 (F := Ideal) (iota .tc S56x128 32 [1] iota_S56x128_d1_w32)
      (k0_pay6 wa
        (k0_pay2 (iota .tc S28x128 32 [1] iota_S28x128_d1_w32) k0_pay10 k0_pay11 wa ca)
        (k0_pay3 (iota .tc S28x128 32 [1] iota_S28x128_d1_w32) k0_pay10 k0_pay11 wa ca)
        (k0_pay4 (iota .tc S28x128 32 [1] iota_S28x128_d1_w32) k0_pay10 k0_pay11 wa ca)
        (k0_pay5 (iota .tc S28x128 32 [1] iota_S28x128_d1_w32) k0_pay10 k0_pay11 wa ca))
      wb (k0_pay7 (iota .tc S28x128 32 [1] iota_S28x128_d1_w32) k0_pay10 k0_pay11 wb cb) (k0_pay8 wb)
      = gramPay (loadA wa ca) (loadA wb cb) := rfl

/-- The sum of the products of two slots' entries. -/
def dotAt (a : FVec Ideal S56x256 .bf16) (i j : Fin 56) : EReal :=
  ∑ k : Fin 256, a (ix2 i k : S56x256.Idx) * a (ix2 j k : S56x256.Idx)

/-- The lower lanes of a trip's store hold the products of its first node. -/
theorem gramPay_low (a b : FVec Ideal S56x256 .bf16) (i j : Fin 56) (u : Fin 1) (l : Fin 128) (hl : l.val = j.val) :
    gramPay a b (ix3 i u l : S56x1x128.Idx) = dotAt a i j := by
  have hj := j.isLt
  unfold gramPay dotAt
  pointwise [dot_S56x256_S128x256_S56x128_1_1_0_0_n_n]
  have hsel : ∀ l : Fin 128, l.val < 64 → IntOp.cmpi CmpIPredicate.slt (BitVec.ofNat 32 l.val) 64#32 = 1#1 := by decide
  rw [hsel l (by omega)]
  refine (if_pos rfl : Scalar.select _ _ _ = _).trans ?_
  refine Finset.sum_congr rfl fun k _ => congrArg (fun y : EReal => (a (ix2 i k : S56x256.Idx) : EReal) * y) ?_
  refine (dif_pos (by omega)).trans ?_
  exact congrArg (fun p => a (ix2 p k)) (Fin.ext hl)

/-- The upper lanes of a trip's store hold the products of its second node. -/
theorem gramPay_high (a b : FVec Ideal S56x256 .bf16) (i j : Fin 56) (u : Fin 1) (l : Fin 128) (hl : l.val = 64 + j.val) :
    gramPay a b (ix3 i u l : S56x1x128.Idx) = dotAt b i j := by
  have hj := j.isLt
  unfold gramPay dotAt
  pointwise [dot_S56x256_S128x256_S56x128_1_1_0_0_n_n]
  have hsel : ∀ l : Fin 128, 64 ≤ l.val → IntOp.cmpi CmpIPredicate.slt (BitVec.ofNat 32 l.val) 64#32 = 0#1 := by decide
  rw [hsel l (by omega)]
  refine (if_neg (by decide) : Scalar.select _ _ _ = _).trans ?_
  refine Finset.sum_congr rfl fun k _ => congrArg (fun y : EReal => (b (ix2 i k : S56x256.Idx) : EReal) * y) ?_
  refine (dif_neg (by omega)).trans ?_
  refine (dif_neg (by omega)).trans ?_
  refine (dif_pos (by omega)).trans ?_
  exact congrArg (fun p => b (ix2 p k)) (Fin.ext (by dsimp only; omega))

end Cert.KernelIdeal.Hand
-- ==== Proof.Gram.lean ====
module

public import proofs.«01_k».proof.Proof.Load
public import Idealize.ShloMosaic.Lib.Pipeline.ReadBack

@[expose] public section

noncomputable section

namespace Cert.KernelIdeal.Hand

open Cert.KernelIdeal Cert.KernelIdeal.Gen

open Idealize.ShloMosaic

/-- The 28 rows of node `n` in a block of 256 nodes' rows. -/
def nodeRows (X3 : S7168x128.Idx → BitVec 32) (n : Fin 256) : S28x128.Idx → BitVec 32 :=
  fun x => X3 (ix2 ⟨28 * n.val + (x 0).val, by have h0 : (x 0).val < 28 := (x 0).isLt; omega⟩ (x 1))

/-- The count of node `n` of grid point `i`. -/
def nodeCnt (X1 : S2048.Idx → BitVec 32) (i : grid0.Coords) (n : Fin 256) : BitVec 32 :=
  X1 (ix1 ⟨256 * (i 0).val + n.val, by have h0 : (i 0).val < 8 := (i 0).isLt; omega⟩)

/-- The 56 vectors of node `n` of grid point `i`. -/
def nodeA (X1 : S2048.Idx → BitVec 32) (X3 : S7168x128.Idx → BitVec 32) (i : grid0.Coords) (n : Fin 256) : FVec Ideal S56x256 .bf16 :=
  loadA (nodeRows X3 n) (nodeCnt X1 i n)

/-- What the first phase leaves at slot `y 0`, pair `y 1`, lane `y 2`: the products of node `y 1` in the low lanes
    and of node `y 1 + 128` in the high ones. -/
def gram (X1 : S2048.Idx → BitVec 32) (X3 : S7168x128.Idx → BitVec 32) (i : grid0.Coords) : S56x128x128.Idx → EReal :=
  fun y => gramPay (nodeA X1 X3 i ⟨(y 1).val, lt_trans (y 1).isLt (by decide)⟩)
    (nodeA X1 X3 i ⟨(y 1).val + 128, by have h0 : (y 1).val < 128 := (y 1).isLt; omega⟩) (ix3 (y 0) 0 (y 2))

theorem ix2_off {n0 n1 m0 m1 : Nat} {off : Fin 2 → Nat} {inb} (a b : Nat) (h : off = ![a, b]) (x : (⟨2, ![m0, m1]⟩ : Shape).Idx)
    (h0 : a + (x 0).val < n0) (h1 : b + (x 1).val < n1) :
    (Rect.unit (s := ⟨2, ![n0, n1]⟩) off ![m0, m1] inb).toLoadRect.idx x = ix2 ⟨a + (x 0).val, h0⟩ ⟨b + (x 1).val, h1⟩ := by
  subst h
  funext d
  match d with
  | ⟨0, _⟩ => exact Fin.ext (by rw [LoadRect.idx_apply]; show a + 1 * (x 0).val = a + (x 0).val; omega)
  | ⟨1, _⟩ => exact Fin.ext (by rw [LoadRect.idx_apply]; show b + 1 * (x 1).val = b + (x 1).val; omega)

theorem ix3_off {n0 n1 n2 m0 m1 m2 : Nat} {off : Fin 3 → Nat} {inb} (a b c : Nat) (h : off = ![a, b, c])
    (x : (⟨3, ![m0, m1, m2]⟩ : Shape).Idx) (h0 : a + (x 0).val < n0) (h1 : b + (x 1).val < n1) (h2 : c + (x 2).val < n2) :
    (Rect.unit (s := ⟨3, ![n0, n1, n2]⟩) off ![m0, m1, m2] inb).toLoadRect.idx x
      = ix3 ⟨a + (x 0).val, h0⟩ ⟨b + (x 1).val, h1⟩ ⟨c + (x 2).val, h2⟩ := by
  subst h
  funext d
  match d with
  | ⟨0, _⟩ => exact Fin.ext (by rw [LoadRect.idx_apply]; show a + 1 * (x 0).val = a + (x 0).val; omega)
  | ⟨1, _⟩ => exact Fin.ext (by rw [LoadRect.idx_apply]; show b + 1 * (x 1).val = b + (x 1).val; omega)
  | ⟨2, _⟩ => exact Fin.ext (by rw [LoadRect.idx_apply]; show c + 1 * (x 2).val = c + (x 2).val; omega)

theorem trips_eq : k0_t1_loop.trips = 128 := by decide

/-- The rows one trip loads are its node's. -/
theorem rows_load (V : View sig .tc .vmem S7168x128 .i32) (f : V.ty.Contents (Elt Ideal)) (n : Fin 256) (off : Fin 2 → Nat)
    (h : off = ![28 * n.val, 0]) (inb) :
    View.readAt (Elt Ideal) V (Rect.unit (s := S7168x128) off S28x128.size inb).toLoadRect f
      = nodeRows (V.read (Elt Ideal) f) n := by
  funext x
  have h0 : (x 0).val < 28 := (x 0).isLt
  have h1 : (x 1).val < 128 := (x 1).isLt
  refine (View.readAt_apply ..).trans ?_
  refine congrArg (V.read (Elt Ideal) f) ((ix2_off (28 * n.val) 0 h x (by omega) (by omega)).trans ?_)
  exact congrArg (ix2 _) (Fin.ext (Nat.zero_add _))

/-- The count one trip loads is its node's. -/
theorem cnt_load (V : View sig .tc .smem S2048 .i32) (f : V.ty.Contents (Elt Ideal)) (i : grid0.Coords) (n : Fin 256) (off : Fin 1 → Nat)
    (h : off = ![256 * (i 0).val + n.val]) (inb) (x : S1.Idx) :
    View.readAt (Elt Ideal) V (Rect.unit (s := S2048) off S1.size inb).toLoadRect f x
      = nodeCnt (V.read (Elt Ideal) f) i n := by
  subst h
  have h0 : (x 0).val < 1 := (x 0).isLt
  refine (View.readAt_apply ..).trans ?_
  refine congrArg (V.read (Elt Ideal) f) (funext fun d => ?_)
  match d with
  | ⟨0, _⟩ => exact Fin.ext (by rw [LoadRect.idx_apply]; show _ + 1 * (x 0).val = 256 * (i 0).val + n.val
                                show (256 * (i 0).val + n.val) + 1 * (x 0).val = 256 * (i 0).val + n.val; omega)

variable (c : Dev nD) (i : grid0.Coords)
  (arg1 : Memref sig .tc .smem S2048 .i32) (harg1 : arg1.IsWhole) (arg2 : Memref sig .tc .vmem S1x256 .i32) (harg2 : arg2.IsWhole) (arg3 : Memref sig .tc .vmem S7168x128 .i32) (harg3 : arg3.IsWhole) (arg4 : Memref sig .tc .vmem S56x56x256 .f32) (harg4 : arg4.IsWhole) (arg5 : Memref sig .tc .vmem S56x128x128 .f32) (harg5 : arg5.IsWhole) (arg6 : Memref sig .tc .vmem S56x256 .f32) (harg6 : arg6.IsWhole)
  (f1 : BufTy.Contents (Elt Ideal) arg1.view.ty) (f3 : BufTy.Contents (Elt Ideal) arg3.view.ty)

/-- One trip stores one block of the products. -/
theorem trip_piecesOf (k : Fin k0_t1_loop.trips) :
    View.PiecesOf (gram (arg1.view.read (Elt Ideal) f1) (arg3.view.read (Elt Ideal) f3) i)
      (tripL_k0_t1 (F := Ideal) Variants.none c none i arg1 harg1 arg2 harg2 arg3 harg3 arg4 harg4 arg5 harg5 arg6 harg6 (Scalar.muli (BitVec.ofNat 32 (i 0).val) 256#32) (iota .tc S28x128 32 [1] iota_S28x128_d1_w32) (iota .tc S56x128 32 [1] iota_S56x128_d1_w32) f1 f3 k) := by
  have hk : k.val < 128 := lt_of_lt_of_eq k.isLt trips_eq
  unfold tripL_k0_t1 trip_k0_t1
  refine ⟨fun x => ?_, trivial⟩
  have h0 : (x 0).val < 56 := (x 0).isLt
  have h1 : (x 1).val < 1 := (x 1).isLt
  have h2 : (x 2).val < 128 := (x 2).isLt
  have ew := rows_load arg3.view f3 ⟨k.val, by omega⟩ (k0_off1 k) (k0_off1_eq k) (k0_off1_inb k)
  have ew' := rows_load arg3.view f3 ⟨k.val + 128, by omega⟩ (k0_off3 k) ((k0_off3_eq k).trans (by rw [Nat.mul_add])) (k0_off3_inb k)
  have ec := cnt_load arg1.view f1 i ⟨k.val, by omega⟩ (k0_off2 i k) (k0_off2_eq i k) (k0_off2_inb i k) (Shape.Idx.first (by decide))
  have ec' := cnt_load arg1.view f1 i ⟨k.val + 128, by omega⟩ (k0_off4 i k) ((k0_off4_eq i k).trans (by rw [Nat.add_assoc])) (k0_off4_inb i k) (Shape.Idx.first (by decide))
  have hpay := pay9_eq (nodeRows (arg3.view.read (Elt Ideal) f3) ⟨k.val, by omega⟩) (nodeRows (arg3.view.read (Elt Ideal) f3) ⟨k.val + 128, by omega⟩)
    (nodeCnt (arg1.view.read (Elt Ideal) f1) i ⟨k.val, by omega⟩) (nodeCnt (arg1.view.read (Elt Ideal) f1) i ⟨k.val + 128, by omega⟩)
  rw [← ew, ← ew', ← ec, ← ec'] at hpay
  refine (congrFun hpay x).trans ?_
  rw [ew, ew', ec, ec']
  have hx : (Rect.unit (s := S56x128x128) (k0_off5 k) S56x1x128.size (k0_off5_inb k)).emb x = ix3 (x 0) ⟨k.val, hk⟩ (x 2) :=
    (ix3_off 0 k.val 0 (k0_off5_eq k) x (by omega) (by omega) (by omega)).trans (by
      funext d
      match d with
      | ⟨0, _⟩ => exact Fin.ext (Nat.zero_add _)
      | ⟨1, _⟩ => exact Fin.ext (by show k.val + (x 1).val = k.val; omega)
      | ⟨2, _⟩ => exact Fin.ext (Nat.zero_add _))
  refine Eq.trans ?_ (congrArg (gram (arg1.view.read (Elt Ideal) f1) (arg3.view.read (Elt Ideal) f3) i) hx).symm
  have hx' : x = ix3 (x 0) 0 (x 2) := by
    funext d
    match d with
    | ⟨0, _⟩ => rfl
    | ⟨1, _⟩ => exact Fin.ext (by show (x 1).val = 0; omega)
    | ⟨2, _⟩ => rfl
  exact congrArg (gramPay _ _) hx'

/-- The pieces of the first trips. -/
abbrev pbs (n : Nat) : List (View.Piece (Elt Ideal) S56x128x128 .f32) :=
  pb_k0_t1 (F := Ideal) Variants.none c none i arg1 harg1 arg2 harg2 arg3 harg3 arg4 harg4 arg5 harg5 arg6 harg6 (Scalar.muli (BitVec.ofNat 32 (i 0).val) 256#32) (iota .tc S28x128 32 [1] iota_S28x128_d1_w32) (iota .tc S56x128 32 [1] iota_S56x128_d1_w32) f1 f3 n

theorem PiecesOf_append {s : Shape} {e : EltTy} {Val : EltTy → Type} {G : s.Idx → Val e} :
    ∀ {L L' : List (View.Piece Val s e)}, View.PiecesOf G L → View.PiecesOf G L' → View.PiecesOf G (L ++ L')
  | [], _, _, h => h
  | _ :: _, _, h, h' => ⟨h.1, PiecesOf_append h.2 h'⟩

/-- The first trips' stores are blocks of the products. -/
theorem pbs_piecesOf : ∀ n : Nat, n ≤ 128 →
    View.PiecesOf (gram (arg1.view.read (Elt Ideal) f1) (arg3.view.read (Elt Ideal) f3) i) (pbs c i arg1 harg1 arg2 harg2 arg3 harg3 arg4 harg4 arg5 harg5 arg6 harg6 f1 f3 n)
  | 0, _ => by unfold pbs; rw [pb_k0_t1.eq_1]; exact trivial
  | n + 1, h => by
    have hn : n < k0_t1_loop.trips := lt_of_lt_of_eq (by omega) trips_eq.symm
    have e := pb_k0_t1_succ (F := Ideal) Variants.none c none i arg1 harg1 arg2 harg2 arg3 harg3 arg4 harg4 arg5 harg5 arg6 harg6 (Scalar.muli (BitVec.ofNat 32 (i 0).val) 256#32) (iota .tc S28x128 32 [1] iota_S28x128_d1_w32) (iota .tc S56x128 32 [1] iota_S56x128_d1_w32) f1 f3 ⟨n, hn⟩
    refine Eq.mpr (congrArg (View.PiecesOf _) e) ?_
    exact PiecesOf_append (trip_piecesOf c i arg1 harg1 arg2 harg2 arg3 harg3 arg4 harg4 arg5 harg5 arg6 harg6 f1 f3 ⟨n, hn⟩) (pbs_piecesOf n (by omega))

/-- One trip's store covers its node's pairs. -/
theorem trip_cover (k : Fin k0_t1_loop.trips) (y : S56x128x128.Idx) (hy : (y 1).val = k.val) :
    ∃ p ∈ tripL_k0_t1 (F := Ideal) Variants.none c none i arg1 harg1 arg2 harg2 arg3 harg3 arg4 harg4 arg5 harg5 arg6 harg6 (Scalar.muli (BitVec.ofNat 32 (i 0).val) 256#32) (iota .tc S28x128 32 [1] iota_S28x128_d1_w32) (iota .tc S56x128 32 [1] iota_S56x128_d1_w32) f1 f3 k, y ∈ p.1.set := by
  unfold tripL_k0_t1 trip_k0_t1
  dsimp only
  refine ⟨_, List.Mem.head _, ?_⟩
  show y ∈ (Rect.unit (s := S56x128x128) (k0_off5 k) S56x1x128.size (k0_off5_inb k)).set
  refine Rect.mem_set_unit.mpr ?_
  have h0 : (y 0).val < 56 := (y 0).isLt
  have h2 : (y 2).val < 128 := (y 2).isLt
  intro d
  rw [k0_off5_eq]
  match d with
  | ⟨0, _⟩ => exact ⟨Nat.zero_le _, by show (y 0).val < 0 + 56; omega⟩
  | ⟨1, _⟩ => exact ⟨by show k.val ≤ (y 1).val; omega, by show (y 1).val < k.val + 1; omega⟩
  | ⟨2, _⟩ => exact ⟨Nat.zero_le _, by show (y 2).val < 0 + 128; omega⟩

/-- The first trips' stores cover their nodes' pairs. -/
theorem pbs_cover : ∀ n : Nat, n ≤ 128 → ∀ y : S56x128x128.Idx, (y 1).val < n → ∃ p ∈ pbs c i arg1 harg1 arg2 harg2 arg3 harg3 arg4 harg4 arg5 harg5 arg6 harg6 f1 f3 n, y ∈ p.1.set
  | 0, _, _, h => absurd h (Nat.not_lt_zero _)
  | n + 1, h, y, hy => by
    have hn : n < k0_t1_loop.trips := lt_of_lt_of_eq (by omega) trips_eq.symm
    have e := pb_k0_t1_succ (F := Ideal) Variants.none c none i arg1 harg1 arg2 harg2 arg3 harg3 arg4 harg4 arg5 harg5 arg6 harg6 (Scalar.muli (BitVec.ofNat 32 (i 0).val) 256#32) (iota .tc S28x128 32 [1] iota_S28x128_d1_w32) (iota .tc S56x128 32 [1] iota_S56x128_d1_w32) f1 f3 ⟨n, hn⟩
    refine Eq.mpr (congrArg (fun L : List (View.Piece (Elt Ideal) S56x128x128 .f32) => ∃ p ∈ L, y ∈ p.1.set) e) ?_
    by_cases hlt : (y 1).val < n
    · obtain ⟨p, hp, hm⟩ := pbs_cover n (by omega) y hlt
      exact ⟨p, List.mem_append_right _ hp, hm⟩
    · obtain ⟨p, hp, hm⟩ := trip_cover c i arg1 harg1 arg2 harg2 arg3 harg3 arg4 harg4 arg5 harg5 arg6 harg6 f1 f3 ⟨n, hn⟩ y (by show (y 1).val = n; omega)
      exact ⟨p, List.mem_append_left _ hp, hm⟩

/-- After the first phase the scratch buffer reads as the products. -/
theorem read_pbs (n : Nat) (hn : n = 128) (f5 : BufTy.Contents (Elt Ideal) arg5.view.ty) (y : S56x128x128.Idx) :
    arg5.view.read (Elt Ideal) (arg5.view.writes (Elt Ideal) f5 (pbs c i arg1 harg1 arg2 harg2 arg3 harg3 arg4 harg4 arg5 harg5 arg6 harg6 f1 f3 n)) y
      = gram (arg1.view.read (Elt Ideal) f1) (arg3.view.read (Elt Ideal) f3) i y := by
  subst hn
  exact View.read_writes_apply_of_pieces arg5.view f5 _ _ (pbs_piecesOf c i arg1 harg1 arg2 harg2 arg3 harg3 arg4 harg4 arg5 harg5 arg6 harg6 f1 f3 128 le_rfl).mem y
    (pbs_cover c i arg1 harg1 arg2 harg2 arg3 harg3 arg4 harg4 arg5 harg5 arg6 harg6 f1 f3 128 le_rfl y (y 1).isLt)

/-- A slot's products loaded after the first phase. -/
theorem gram_load (f5 : BufTy.Contents (Elt Ideal) arg5.view.ty) (k : Fin 56) (inb) (p l : Fin 128) :
    View.readAt (Elt Ideal) arg5.view (Rect.unit (s := S56x128x128) ![k.val, 0, 0] S1x128x128.size inb).toLoadRect
        (arg5.view.writes (Elt Ideal) f5 (pbs c i arg1 harg1 arg2 harg2 arg3 harg3 arg4 harg4 arg5 harg5 arg6 harg6 f1 f3 (Scf.trips k0_t1_loop.lb k0_t1_loop.ub k0_t1_loop.st))) (ix3 0 p l)
      = gram (arg1.view.read (Elt Ideal) f1) (arg3.view.read (Elt Ideal) f3) i (ix3 k p l) := by
  refine (View.readAt_apply ..).trans ((read_pbs c i arg1 harg1 arg2 harg2 arg3 harg3 arg4 harg4 arg5 harg5 arg6 harg6 f1 f3 _ trips_eq f5 _).trans ?_)
  refine congrArg _ ((ix3_off k.val 0 0 rfl (ix3 0 p l : S1x128x128.Idx) (by show k.val + 0 < 56; omega) (by show 0 + p.val < 128; omega) (by show 0 + l.val < 128; omega)).trans ?_)
  funext d
  match d with
  | ⟨0, _⟩ => rfl
  | ⟨1, _⟩ => exact Fin.ext (Nat.zero_add _)
  | ⟨2, _⟩ => exact Fin.ext (Nat.zero_add _)

end Cert.KernelIdeal.Hand
-- ==== Proof.Stores.lean ====
module

public import proofs.«01_k».proof.Proof.Gram

@[expose] public section

noncomputable section

namespace Cert.KernelIdeal.Hand

open Cert.KernelIdeal Cert.KernelIdeal.Gen

open Idealize.ShloMosaic

/-- The inner products of slots `y 0` and `y 1` of node `y 2`. -/
def outG (X1 : S2048.Idx → BitVec 32) (X3 : S7168x128.Idx → BitVec 32) (i : grid0.Coords) : S56x56x256.Idx → EReal :=
  fun y => dotAt (nodeA X1 X3 i (y 2)) (y 0) (y 1)

/-- The squared norm of slot `y 0` of node `y 1`. -/
def normG (X1 : S2048.Idx → BitVec 32) (X3 : S7168x128.Idx → BitVec 32) (i : grid0.Coords) : S56x256.Idx → EReal :=
  fun y => dotAt (nodeA X1 X3 i (y 1)) (y 0) (y 0)

theorem eta2 {n0 n1 : Nat} (x : (⟨2, ![n0, n1]⟩ : Shape).Idx) : x = ix2 (x 0) (x 1) := by
  funext d
  match d with
  | ⟨0, _⟩ => rfl
  | ⟨1, _⟩ => rfl

theorem eta3 {n0 n1 n2 : Nat} (x : (⟨3, ![n0, n1, n2]⟩ : Shape).Idx) : x = ix3 (x 0) (x 1) (x 2) := by
  funext d
  match d with
  | ⟨0, _⟩ => rfl
  | ⟨1, _⟩ => rfl
  | ⟨2, _⟩ => rfl

theorem outG_eq (X1 : S2048.Idx → BitVec 32) (X3 : S7168x128.Idx → BitVec 32) (i : grid0.Coords) (a b : Fin 56) (n : Fin 256) :
    outG X1 X3 i (ix3 a b n) = dotAt (nodeA X1 X3 i n) a b := rfl

theorem normG_eq (X1 : S2048.Idx → BitVec 32) (X3 : S7168x128.Idx → BitVec 32) (i : grid0.Coords) (a : Fin 56) (n : Fin 256) :
    normG X1 X3 i (ix2 a n) = dotAt (nodeA X1 X3 i n) a a := rfl

theorem gram_low (X1 : S2048.Idx → BitVec 32) (X3 : S7168x128.Idx → BitVec 32) (i : grid0.Coords) (k j : Fin 56) (p l : Fin 128)
    (h : l.val = j.val) :
    gram X1 X3 i (ix3 k p l) = dotAt (nodeA X1 X3 i ⟨p.val, lt_trans p.isLt (by decide)⟩) k j :=
  gramPay_low _ _ k j 0 l h

theorem gram_high (X1 : S2048.Idx → BitVec 32) (X3 : S7168x128.Idx → BitVec 32) (i : grid0.Coords) (k j : Fin 56) (p l : Fin 128)
    (h : l.val = 64 + j.val) :
    gram X1 X3 i (ix3 k p l) = dotAt (nodeA X1 X3 i ⟨p.val + 128, by have := p.isLt; omega⟩) k j :=
  gramPay_high _ _ k j 0 l h

theorem pay13_at (g : Vec Ideal S1x128x128 .f32) (u : Fin 1) (j : Fin 56) (l : Fin 128) :
    k0_pay13 (F := Ideal) g (ix3 u j l : S1x56x128.Idx) = g (ix3 0 l ⟨j.val, by omega⟩) := by
  unfold_payloads
  pointwise

theorem pay14_at (g : Vec Ideal S1x128x128 .f32) (u : Fin 1) (j : Fin 56) (l : Fin 128) :
    k0_pay14 (F := Ideal) g (ix3 u j l : S1x56x128.Idx) = g (ix3 0 l ⟨64 + j.val, by omega⟩) := by
  unfold_payloads
  pointwise

/-- Row `r` of a slot's transposed products. -/
def rowPay (r : Nat) (hr : S128x128.Slices ![r, 0] S1x128) (g : Vec Ideal S1x128x128 .f32) : FVec Ideal S1x128 .f32 :=
  shapeCast S1x128 (extractStridedSlice S1x128 ![r, 0] (k0_pay12 (F := Ideal) g) hr) shapeCasts_S1x128_S1x128

theorem rowPay_at (r : Nat) (hr : S128x128.Slices ![r, 0] S1x128) (h : r < 128) (g : Vec Ideal S1x128x128 .f32) (u : Fin 1) (l : Fin 128) :
    rowPay r hr g (ix2 u l : S1x128.Idx) = g (ix3 0 l ⟨r, h⟩) := by
  unfold rowPay
  unfold_payloads
  pointwise

/-! ## The two phases' stores -/

/-- A list of stores of blocks of `G` that covers the rows before `n`. -/
structure Rows {s : Shape} (e : EltTy) (G : s.Idx → Elt Ideal e) (row : s.Idx → Nat) (n : Nat) (L : List (View.Piece (Elt Ideal) s e)) : Prop where
  blocks : View.PiecesOf G L
  cover : ∀ y, row y < n → ∃ p ∈ L, y ∈ p.1.set

/-- The row of an entry of the result's buffer. -/
def row4 (y : S56x56x256.Idx) : Nat := (y 0).val

/-- The row of an entry of the norms' buffer. -/
def row6 (y : S56x256.Idx) : Nat := (y 0).val

variable (c : Dev nD) (i : grid0.Coords)
  (arg1 : Memref sig .tc .smem S2048 .i32) (harg1 : arg1.IsWhole) (arg2 : Memref sig .tc .vmem S1x256 .i32) (harg2 : arg2.IsWhole) (arg3 : Memref sig .tc .vmem S7168x128 .i32) (harg3 : arg3.IsWhole) (arg4 : Memref sig .tc .vmem S56x56x256 .f32) (harg4 : arg4.IsWhole) (arg5 : Memref sig .tc .vmem S56x128x128 .f32) (harg5 : arg5.IsWhole) (arg6 : Memref sig .tc .vmem S56x256 .f32) (harg6 : arg6.IsWhole)
  (f1 : BufTy.Contents (Elt Ideal) arg1.view.ty) (f3 : BufTy.Contents (Elt Ideal) arg3.view.ty) (f5 : BufTy.Contents (Elt Ideal) arg5.view.ty)

/-- A slot's products as loaded after the first phase. -/
abbrev slotLd (k : Nat) (inb : ∀ a, (![k, 0, 0] : Fin 3 → Nat) a + S1x128x128.size a ≤ S56x128x128.size a) : Vec Ideal S1x128x128 .f32 :=
  View.readAt (Elt Ideal) arg5.view (Rect.unit (s := S56x128x128) ![k, 0, 0] S1x128x128.size inb).toLoadRect
        (arg5.view.writes (Elt Ideal) f5 (pbs c i arg1 harg1 arg2 harg2 arg3 harg3 arg4 harg4 arg5 harg5 arg6 harg6 f1 f3 (Scf.trips k0_t1_loop.lb k0_t1_loop.ub k0_t1_loop.st)))

theorem out_step (k : Nat) (hk : k < 56) (inb inbL inbH) (L : List (View.Piece (Elt Ideal) S56x56x256 .f32))
    (h : Rows .f32 (outG (arg1.view.read (Elt Ideal) f1) (arg3.view.read (Elt Ideal) f3) i) row4 k L) :
    Rows .f32 (outG (arg1.view.read (Elt Ideal) f1) (arg3.view.read (Elt Ideal) f3) i) row4 (k + 1)
      (⟨Rect.unit (s := S56x56x256) ![k, 0, 128] S1x56x128.size inbH, k0_pay14 (F := Ideal) (slotLd c i arg1 harg1 arg2 harg2 arg3 harg3 arg4 harg4 arg5 harg5 arg6 harg6 f1 f3 f5 k inb)⟩
        :: ⟨Rect.unit (s := S56x56x256) ![k, 0, 0] S1x56x128.size inbL, k0_pay13 (F := Ideal) (slotLd c i arg1 harg1 arg2 harg2 arg3 harg3 arg4 harg4 arg5 harg5 arg6 harg6 f1 f3 f5 k inb)⟩ :: L) := by
  refine ⟨⟨fun x => ?_, fun x => ?_, h.blocks⟩, fun y hy => ?_⟩
  · have h0 : (x 0).val < 1 := (x 0).isLt
    have h1 : (x 1).val < 56 := (x 1).isLt
    have h2 : (x 2).val < 128 := (x 2).isLt
    have hx : x = ix3 (x 0) (x 1) (x 2) := (eta3 x)
    refine (congrArg (k0_pay14 (F := Ideal) (slotLd c i arg1 harg1 arg2 harg2 arg3 harg3 arg4 harg4 arg5 harg5 arg6 harg6 f1 f3 f5 k inb)) hx).trans ?_
    refine (pay14_at _ (x 0) (x 1) (x 2)).trans ((gram_load c i arg1 harg1 arg2 harg2 arg3 harg3 arg4 harg4 arg5 harg5 arg6 harg6 f1 f3 f5 ⟨k, hk⟩ inb _ _).trans ?_)
    refine (gram_high _ _ i ⟨k, hk⟩ (x 1) (x 2) _ rfl).trans (Eq.trans (outG_eq _ _ i ⟨k, hk⟩ (x 1) _).symm ?_)
    refine congrArg (outG _ _ i) (a₁ := ix3 ⟨k, hk⟩ (x 1) ⟨(x 2).val + 128, by omega⟩) (Eq.symm ((ix3_off (inb := inbH) k 0 128 rfl x (by omega) (by omega) (by omega)).trans ?_))
    funext d
    match d with
    | ⟨0, _⟩ => exact Fin.ext (by show k + (x 0).val = k; omega)
    | ⟨1, _⟩ => exact Fin.ext (Nat.zero_add _)
    | ⟨2, _⟩ => exact Fin.ext (Nat.add_comm _ _)
  · have h0 : (x 0).val < 1 := (x 0).isLt
    have h1 : (x 1).val < 56 := (x 1).isLt
    have h2 : (x 2).val < 128 := (x 2).isLt
    have hx : x = ix3 (x 0) (x 1) (x 2) := (eta3 x)
    refine (congrArg (k0_pay13 (F := Ideal) (slotLd c i arg1 harg1 arg2 harg2 arg3 harg3 arg4 harg4 arg5 harg5 arg6 harg6 f1 f3 f5 k inb)) hx).trans ?_
    refine (pay13_at _ (x 0) (x 1) (x 2)).trans ((gram_load c i arg1 harg1 arg2 harg2 arg3 harg3 arg4 harg4 arg5 harg5 arg6 harg6 f1 f3 f5 ⟨k, hk⟩ inb _ _).trans ?_)
    refine (gram_low _ _ i ⟨k, hk⟩ (x 1) (x 2) _ rfl).trans (Eq.trans (outG_eq _ _ i ⟨k, hk⟩ (x 1) _).symm ?_)
    refine congrArg (outG _ _ i) (a₁ := ix3 ⟨k, hk⟩ (x 1) ⟨(x 2).val, by omega⟩) (Eq.symm ((ix3_off (inb := inbL) k 0 0 rfl x (by omega) (by omega) (by omega)).trans ?_))
    funext d
    match d with
    | ⟨0, _⟩ => exact Fin.ext (by show k + (x 0).val = k; omega)
    | ⟨1, _⟩ => exact Fin.ext (Nat.zero_add _)
    | ⟨2, _⟩ => exact Fin.ext (Nat.zero_add _)
  · have h1 : (y 1).val < 56 := (y 1).isLt
    have h2 : (y 2).val < 256 := (y 2).isLt
    have hy' : (y 0).val < k + 1 := hy
    by_cases hlt : (y 0).val < k
    · obtain ⟨p, hp, hm⟩ := h.cover y hlt
      exact ⟨p, List.mem_cons_of_mem _ (List.mem_cons_of_mem _ hp), hm⟩
    by_cases hl : (y 2).val < 128
    · refine ⟨_, List.mem_cons_of_mem _ (List.Mem.head _), ?_⟩
      show y ∈ (Rect.unit (s := S56x56x256) ![k, 0, 0] S1x56x128.size inbL).set
      refine Rect.mem_set_unit.mpr fun d => ?_
      match d with
      | ⟨0, _⟩ => exact ⟨by show k ≤ (y 0).val; omega, by show (y 0).val < k + 1; omega⟩
      | ⟨1, _⟩ => exact ⟨Nat.zero_le _, by show (y 1).val < 0 + 56; omega⟩
      | ⟨2, _⟩ => exact ⟨Nat.zero_le _, by show (y 2).val < 0 + 128; omega⟩
    · refine ⟨_, List.Mem.head _, ?_⟩
      show y ∈ (Rect.unit (s := S56x56x256) ![k, 0, 128] S1x56x128.size inbH).set
      refine Rect.mem_set_unit.mpr fun d => ?_
      match d with
      | ⟨0, _⟩ => exact ⟨by show k ≤ (y 0).val; omega, by show (y 0).val < k + 1; omega⟩
      | ⟨1, _⟩ => exact ⟨Nat.zero_le _, by show (y 1).val < 0 + 56; omega⟩
      | ⟨2, _⟩ => exact ⟨by show 128 ≤ (y 2).val; omega, by show (y 2).val < 128 + 128; omega⟩

theorem norm_step (k : Nat) (hk : k < 56) (inb inbL inbH hrL hrH) (L : List (View.Piece (Elt Ideal) S56x256 .f32))
    (h : Rows .f32 (normG (arg1.view.read (Elt Ideal) f1) (arg3.view.read (Elt Ideal) f3) i) row6 k L) :
    Rows .f32 (normG (arg1.view.read (Elt Ideal) f1) (arg3.view.read (Elt Ideal) f3) i) row6 (k + 1)
      (⟨Rect.unit (s := S56x256) ![k, 128] S1x128.size inbH, rowPay (64 + k) hrH (slotLd c i arg1 harg1 arg2 harg2 arg3 harg3 arg4 harg4 arg5 harg5 arg6 harg6 f1 f3 f5 k inb)⟩
        :: ⟨Rect.unit (s := S56x256) ![k, 0] S1x128.size inbL, rowPay k hrL (slotLd c i arg1 harg1 arg2 harg2 arg3 harg3 arg4 harg4 arg5 harg5 arg6 harg6 f1 f3 f5 k inb)⟩ :: L) := by
  refine ⟨⟨fun x => ?_, fun x => ?_, h.blocks⟩, fun y hy => ?_⟩
  · have h0 : (x 0).val < 1 := (x 0).isLt
    have h1 : (x 1).val < 128 := (x 1).isLt
    have hx : x = ix2 (x 0) (x 1) := (eta2 x)
    refine (congrArg (rowPay (64 + k) hrH (slotLd c i arg1 harg1 arg2 harg2 arg3 harg3 arg4 harg4 arg5 harg5 arg6 harg6 f1 f3 f5 k inb)) hx).trans ?_
    refine (rowPay_at (64 + k) hrH (by omega) _ (x 0) (x 1)).trans ((gram_load c i arg1 harg1 arg2 harg2 arg3 harg3 arg4 harg4 arg5 harg5 arg6 harg6 f1 f3 f5 ⟨k, hk⟩ inb _ _).trans ?_)
    refine (gram_high _ _ i ⟨k, hk⟩ ⟨k, hk⟩ (x 1) _ rfl).trans (Eq.trans (normG_eq _ _ i ⟨k, hk⟩ _).symm ?_)
    refine congrArg (normG _ _ i) (a₁ := ix2 ⟨k, hk⟩ ⟨(x 1).val + 128, by omega⟩) (Eq.symm ((ix2_off (inb := inbH) k 128 rfl x (by omega) (by omega)).trans ?_))
    funext d
    match d with
    | ⟨0, _⟩ => exact Fin.ext (by show k + (x 0).val = k; omega)
    | ⟨1, _⟩ => exact Fin.ext (Nat.add_comm _ _)
  · have h0 : (x 0).val < 1 := (x 0).isLt
    have h1 : (x 1).val < 128 := (x 1).isLt
    have hx : x = ix2 (x 0) (x 1) := (eta2 x)
    refine (congrArg (rowPay k hrL (slotLd c i arg1 harg1 arg2 harg2 arg3 harg3 arg4 harg4 arg5 harg5 arg6 harg6 f1 f3 f5 k inb)) hx).trans ?_
    refine (rowPay_at k hrL (by omega) _ (x 0) (x 1)).trans ((gram_load c i arg1 harg1 arg2 harg2 arg3 harg3 arg4 harg4 arg5 harg5 arg6 harg6 f1 f3 f5 ⟨k, hk⟩ inb _ _).trans ?_)
    refine (gram_low _ _ i ⟨k, hk⟩ ⟨k, hk⟩ (x 1) _ rfl).trans (Eq.trans (normG_eq _ _ i ⟨k, hk⟩ _).symm ?_)
    refine congrArg (normG _ _ i) (a₁ := ix2 ⟨k, hk⟩ ⟨(x 1).val, by omega⟩) (Eq.symm ((ix2_off (inb := inbL) k 0 rfl x (by omega) (by omega)).trans ?_))
    funext d
    match d with
    | ⟨0, _⟩ => exact Fin.ext (by show k + (x 0).val = k; omega)
    | ⟨1, _⟩ => exact Fin.ext (Nat.zero_add _)
  · have h1 : (y 1).val < 256 := (y 1).isLt
    have hy' : (y 0).val < k + 1 := hy
    by_cases hlt : (y 0).val < k
    · obtain ⟨p, hp, hm⟩ := h.cover y hlt
      exact ⟨p, List.mem_cons_of_mem _ (List.mem_cons_of_mem _ hp), hm⟩
    by_cases hl : (y 1).val < 128
    · refine ⟨_, List.mem_cons_of_mem _ (List.Mem.head _), ?_⟩
      show y ∈ (Rect.unit (s := S56x256) ![k, 0] S1x128.size inbL).set
      refine Rect.mem_set_unit.mpr fun d => ?_
      match d with
      | ⟨0, _⟩ => exact ⟨by show k ≤ (y 0).val; omega, by show (y 0).val < k + 1; omega⟩
      | ⟨1, _⟩ => exact ⟨Nat.zero_le _, by show (y 1).val < 0 + 128; omega⟩
    · refine ⟨_, List.Mem.head _, ?_⟩
      show y ∈ (Rect.unit (s := S56x256) ![k, 128] S1x128.size inbH).set
      refine Rect.mem_set_unit.mpr fun d => ?_
      match d with
      | ⟨0, _⟩ => exact ⟨by show k ≤ (y 0).val; omega, by show (y 0).val < k + 1; omega⟩
      | ⟨1, _⟩ => exact ⟨by show 128 ≤ (y 1).val; omega, by show (y 1).val < 128 + 128; omega⟩

theorem rows_nil {s : Shape} {e : EltTy} (G : s.Idx → Elt Ideal e) (row : s.Idx → Nat) : Rows e G row 0 [] :=
  ⟨trivial, fun _ h => absurd h (Nat.not_lt_zero _)⟩

end Cert.KernelIdeal.Hand
-- ==== Proof.Phase1.lean ====
module

public import proofs.«01_k».proof.Proof.RunI
public import proofs.«01_k».proof.Proof.Stores

@[expose] public section

noncomputable section

namespace Cert.KernelIdeal.Hand

open Cert.KernelIdeal Cert.KernelIdeal.Gen

open Idealize.ShloMosaic

variable (c : Dev nD) (i : grid0.Coords)
  (arg1 : Memref sig .tc .smem S2048 .i32) (harg1 : arg1.IsWhole) (arg2 : Memref sig .tc .vmem S1x256 .i32) (harg2 : arg2.IsWhole) (arg3 : Memref sig .tc .vmem S7168x128 .i32) (harg3 : arg3.IsWhole) (arg4 : Memref sig .tc .vmem S56x56x256 .f32) (harg4 : arg4.IsWhole) (arg5 : Memref sig .tc .vmem S56x128x128 .f32) (harg5 : arg5.IsWhole) (arg6 : Memref sig .tc .vmem S56x256 .f32) (harg6 : arg6.IsWhole)
  (f1 : BufTy.Contents (Elt Ideal) arg1.view.ty) (f3 : BufTy.Contents (Elt Ideal) arg3.view.ty) (f5 : BufTy.Contents (Elt Ideal) arg5.view.ty)

theorem rows_H4_2 : Rows .f32 (outG (arg1.view.read (Elt Ideal) f1) (arg3.view.read (Elt Ideal) f3) i) row4 1
    (kernelRun.sl.H4_2 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 0 (by decide) (by decide) (by decide) (by decide) _ (rows_nil _ _)

theorem rows_H4_4 : Rows .f32 (outG (arg1.view.read (Elt Ideal) f1) (arg3.view.read (Elt Ideal) f3) i) row4 2
    (kernelRun.sl.H4_4 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 1 (by decide) (by decide) (by decide) (by decide) _ (rows_H4_2 c i arg1 harg1 arg2 harg2 arg3 harg3 arg4 harg4 arg5 harg5 arg6 harg6 f1 f3 f5)

theorem rows_H4_8 : Rows .f32 (outG (arg1.view.read (Elt Ideal) f1) (arg3.view.read (Elt Ideal) f3) i) row4 4
    (kernelRun.sl.H4_8 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 3 (by decide) (by decide) (by decide) (by decide) _ (out_step c i arg1 harg1 arg2 harg2 arg3 harg3 arg4 harg4 arg5 harg5 arg6 harg6 f1 f3 f5 2 (by decide) (by decide) (by decide) (by decide) _ (rows_H4_4 c i arg1 harg1 arg2 harg2 arg3 harg3 arg4 harg4 arg5 harg5 arg6 harg6 f1 f3 f5))

theorem rows_H4_12 : Rows .f32 (outG (arg1.view.read (Elt Ideal) f1) (arg3.view.read (Elt Ideal) f3) i) row4 6
    (kernelRun.sl.H4_12 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 5 (by decide) (by decide) (by decide) (by decide) _ (out_step c i arg1 harg1 arg2 harg2 arg3 harg3 arg4 harg4 arg5 harg5 arg6 harg6 f1 f3 f5 4 (by decide) (by decide) (by decide) (by decide) _ (rows_H4_8 c i arg1 harg1 arg2 harg2 arg3 harg3 arg4 harg4 arg5 harg5 arg6 harg6 f1 f3 f5))

theorem rows_H4_14 : Rows .f32 (outG (arg1.view.read (Elt Ideal) f1) (arg3.view.read (Elt Ideal) f3) i) row4 7
    (kernelRun.sl.H4_14 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 6 (by decide) (by decide) (by decide) (by decide) _ (rows_H4_12 c i arg1 harg1 arg2 harg2 arg3 harg3 arg4 harg4 arg5 harg5 arg6 harg6 f1 f3 f5)

theorem rows_H4_18 : Rows .f32 (outG (arg1.view.read (Elt Ideal) f1) (arg3.view.read (Elt Ideal) f3) i) row4 9
    (kernelRun.sl.H4_18 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 8 (by decide) (by decide) (by decide) (by decide) _ (out_step c i arg1 harg1 arg2 harg2 arg3 harg3 arg4 harg4 arg5 harg5 arg6 harg6 f1 f3 f5 7 (by decide) (by decide) (by decide) (by decide) _ (rows_H4_14 c i arg1 harg1 arg2 harg2 arg3 harg3 arg4 harg4 arg5 harg5 arg6 harg6 f1 f3 f5))

theorem rows_H4_22 : Rows .f32 (outG (arg1.view.read (Elt Ideal) f1) (arg3.view.read (Elt Ideal) f3) i) row4 11
    (kernelRun.sl.H4_22 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 10 (by decide) (by decide) (by decide) (by decide) _ (out_step c i arg1 harg1 arg2 harg2 arg3 harg3 arg4 harg4 arg5 harg5 arg6 harg6 f1 f3 f5 9 (by decide) (by decide) (by decide) (by decide) _ (rows_H4_18 c i arg1 harg1 arg2 harg2 arg3 harg3 arg4 harg4 arg5 harg5 arg6 harg6 f1 f3 f5))

theorem rows_H4_24 : Rows .f32 (outG (arg1.view.read (Elt Ideal) f1) (arg3.view.read (Elt Ideal) f3) i) row4 12
    (kernelRun.sl.H4_24 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 11 (by decide) (by decide) (by decide) (by decide) _ (rows_H4_22 c i arg1 harg1 arg2 harg2 arg3 harg3 arg4 harg4 arg5 harg5 arg6 harg6 f1 f3 f5)

theorem rows_H4_28 : Rows .f32 (outG (arg1.view.read (Elt Ideal) f1) (arg3.view.read (Elt Ideal) f3) i) row4 14
    (kernelRun.sl.H4_28 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 13 (by decide) (by decide) (by decide) (by decide) _ (out_step c i arg1 harg1 arg2 harg2 arg3 harg3 arg4 harg4 arg5 harg5 arg6 harg6 f1 f3 f5 12 (by decide) (by decide) (by decide) (by decide) _ (rows_H4_24 c i arg1 harg1 arg2 harg2 arg3 harg3 arg4 harg4 arg5 harg5 arg6 harg6 f1 f3 f5))

theorem rows_H4_32 : Rows .f32 (outG (arg1.view.read (Elt Ideal) f1) (arg3.view.read (Elt Ideal) f3) i) row4 16
    (kernelRun.sl.H4_32 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 15 (by decide) (by decide) (by decide) (by decide) _ (out_step c i arg1 harg1 arg2 harg2 arg3 harg3 arg4 harg4 arg5 harg5 arg6 harg6 f1 f3 f5 14 (by decide) (by decide) (by decide) (by decide) _ (rows_H4_28 c i arg1 harg1 arg2 harg2 arg3 harg3 arg4 harg4 arg5 harg5 arg6 harg6 f1 f3 f5))

theorem rows_H4_34 : Rows .f32 (outG (arg1.view.read (Elt Ideal) f1) (arg3.view.read (Elt Ideal) f3) i) row4 17
    (kernelRun.sl.H4_34 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 16 (by decide) (by decide) (by decide) (by decide) _ (rows_H4_32 c i arg1 harg1 arg2 harg2 arg3 harg3 arg4 harg4 arg5 harg5 arg6 harg6 f1 f3 f5)

theorem rows_H4_38 : Rows .f32 (outG (arg1.view.read (Elt Ideal) f1) (arg3.view.read (Elt Ideal) f3) i) row4 19
    (kernelRun.sl.H4_38 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 18 (by decide) (by decide) (by decide) (by decide) _ (out_step c i arg1 harg1 arg2 harg2 arg3 harg3 arg4 harg4 arg5 harg5 arg6 harg6 f1 f3 f5 17 (by decide) (by decide) (by decide) (by decide) _ (rows_H4_34 c i arg1 harg1 arg2 harg2 arg3 harg3 arg4 harg4 arg5 harg5 arg6 harg6 f1 f3 f5))

theorem rows_H4_42 : Rows .f32 (outG (arg1.view.read (Elt Ideal) f1) (arg3.view.read (Elt Ideal) f3) i) row4 21
    (kernelRun.sl.H4_42 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 20 (by decide) (by decide) (by decide) (by decide) _ (out_step c i arg1 harg1 arg2 harg2 arg3 harg3 arg4 harg4 arg5 harg5 arg6 harg6 f1 f3 f5 19 (by decide) (by decide) (by decide) (by decide) _ (rows_H4_38 c i arg1 harg1 arg2 harg2 arg3 harg3 arg4 harg4 arg5 harg5 arg6 harg6 f1 f3 f5))

theorem rows_H4_44 : Rows .f32 (outG (arg1.view.read (Elt Ideal) f1) (arg3.view.read (Elt Ideal) f3) i) row4 22
    (kernelRun.sl.H4_44 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 21 (by decide) (by decide) (by decide) (by decide) _ (rows_H4_42 c i arg1 harg1 arg2 harg2 arg3 harg3 arg4 harg4 arg5 harg5 arg6 harg6 f1 f3 f5)

theorem rows_H4_48 : Rows .f32 (outG (arg1.view.read (Elt Ideal) f1) (arg3.view.read (Elt Ideal) f3) i) row4 24
    (kernelRun.sl.H4_48 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 23 (by decide) (by decide) (by decide) (by decide) _ (out_step c i arg1 harg1 arg2 harg2 arg3 harg3 arg4 harg4 arg5 harg5 arg6 harg6 f1 f3 f5 22 (by decide) (by decide) (by decide) (by decide) _ (rows_H4_44 c i arg1 harg1 arg2 harg2 arg3 harg3 arg4 harg4 arg5 harg5 arg6 harg6 f1 f3 f5))

theorem rows_H4_52 : Rows .f32 (outG (arg1.view.read (Elt Ideal) f1) (arg3.view.read (Elt Ideal) f3) i) row4 26
    (kernelRun.sl.H4_52 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 25 (by decide) (by decide) (by decide) (by decide) _ (out_step c i arg1 harg1 arg2 harg2 arg3 harg3 arg4 harg4 arg5 harg5 arg6 harg6 f1 f3 f5 24 (by decide) (by decide) (by decide) (by decide) _ (rows_H4_48 c i arg1 harg1 arg2 harg2 arg3 harg3 arg4 harg4 arg5 harg5 arg6 harg6 f1 f3 f5))

theorem rows_H4_54 : Rows .f32 (outG (arg1.view.read (Elt Ideal) f1) (arg3.view.read (Elt Ideal) f3) i) row4 27
    (kernelRun.sl.H4_54 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 26 (by decide) (by decide) (by decide) (by decide) _ (rows_H4_52 c i arg1 harg1 arg2 harg2 arg3 harg3 arg4 harg4 arg5 harg5 arg6 harg6 f1 f3 f5)

theorem rows_H4_58 : Rows .f32 (outG (arg1.view.read (Elt Ideal) f1) (arg3.view.read (Elt Ideal) f3) i) row4 29
    (kernelRun.sl.H4_58 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 28 (by decide) (by decide) (by decide) (by decide) _ (out_step c i arg1 harg1 arg2 harg2 arg3 harg3 arg4 harg4 arg5 harg5 arg6 harg6 f1 f3 f5 27 (by decide) (by decide) (by decide) (by decide) _ (rows_H4_54 c i arg1 harg1 arg2 harg2 arg3 harg3 arg4 harg4 arg5 harg5 arg6 harg6 f1 f3 f5))

theorem rows_H4_62 : Rows .f32 (outG (arg1.view.read (Elt Ideal) f1) (arg3.view.read (Elt Ideal) f3) i) row4 31
    (kernelRun.sl.H4_62 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 30 (by decide) (by decide) (by decide) (by decide) _ (out_step c i arg1 harg1 arg2 harg2 arg3 harg3 arg4 harg4 arg5 harg5 arg6 harg6 f1 f3 f5 29 (by decide) (by decide) (by decide) (by decide) _ (rows_H4_58 c i arg1 harg1 arg2 harg2 arg3 harg3 arg4 harg4 arg5 harg5 arg6 harg6 f1 f3 f5))

theorem rows_H4_64 : Rows .f32 (outG (arg1.view.read (Elt Ideal) f1) (arg3.view.read (Elt Ideal) f3) i) row4 32
    (kernelRun.sl.H4_64 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 31 (by decide) (by decide) (by decide) (by decide) _ (rows_H4_62 c i arg1 harg1 arg2 harg2 arg3 harg3 arg4 harg4 arg5 harg5 arg6 harg6 f1 f3 f5)

theorem rows_H4_68 : Rows .f32 (outG (arg1.view.read (Elt Ideal) f1) (arg3.view.read (Elt Ideal) f3) i) row4 34
    (kernelRun.sl.H4_68 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 33 (by decide) (by decide) (by decide) (by decide) _ (out_step c i arg1 harg1 arg2 harg2 arg3 harg3 arg4 harg4 arg5 harg5 arg6 harg6 f1 f3 f5 32 (by decide) (by decide) (by decide) (by decide) _ (rows_H4_64 c i arg1 harg1 arg2 harg2 arg3 harg3 arg4 harg4 arg5 harg5 arg6 harg6 f1 f3 f5))

theorem rows_H4_72 : Rows .f32 (outG (arg1.view.read (Elt Ideal) f1) (arg3.view.read (Elt Ideal) f3) i) row4 36
    (kernelRun.sl.H4_72 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 35 (by decide) (by decide) (by decide) (by decide) _ (out_step c i arg1 harg1 arg2 harg2 arg3 harg3 arg4 harg4 arg5 harg5 arg6 harg6 f1 f3 f5 34 (by decide) (by decide) (by decide) (by decide) _ (rows_H4_68 c i arg1 harg1 arg2 harg2 arg3 harg3 arg4 harg4 arg5 harg5 arg6 harg6 f1 f3 f5))

theorem rows_H4_74 : Rows .f32 (outG (arg1.view.read (Elt Ideal) f1) (arg3.view.read (Elt Ideal) f3) i) row4 37
    (kernelRun.sl.H4_74 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 36 (by decide) (by decide) (by decide) (by decide) _ (rows_H4_72 c i arg1 harg1 arg2 harg2 arg3 harg3 arg4 harg4 arg5 harg5 arg6 harg6 f1 f3 f5)

theorem rows_H4_78 : Rows .f32 (outG (arg1.view.read (Elt Ideal) f1) (arg3.view.read (Elt Ideal) f3) i) row4 39
    (kernelRun.sl.H4_78 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 38 (by decide) (by decide) (by decide) (by decide) _ (out_step c i arg1 harg1 arg2 harg2 arg3 harg3 arg4 harg4 arg5 harg5 arg6 harg6 f1 f3 f5 37 (by decide) (by decide) (by decide) (by decide) _ (rows_H4_74 c i arg1 harg1 arg2 harg2 arg3 harg3 arg4 harg4 arg5 harg5 arg6 harg6 f1 f3 f5))

theorem rows_H4_82 : Rows .f32 (outG (arg1.view.read (Elt Ideal) f1) (arg3.view.read (Elt Ideal) f3) i) row4 41
    (kernelRun.sl.H4_82 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 40 (by decide) (by decide) (by decide) (by decide) _ (out_step c i arg1 harg1 arg2 harg2 arg3 harg3 arg4 harg4 arg5 harg5 arg6 harg6 f1 f3 f5 39 (by decide) (by decide) (by decide) (by decide) _ (rows_H4_78 c i arg1 harg1 arg2 harg2 arg3 harg3 arg4 harg4 arg5 harg5 arg6 harg6 f1 f3 f5))

theorem rows_H4_84 : Rows .f32 (outG (arg1.view.read (Elt Ideal) f1) (arg3.view.read (Elt Ideal) f3) i) row4 42
    (kernelRun.sl.H4_84 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 41 (by decide) (by decide) (by decide) (by decide) _ (rows_H4_82 c i arg1 harg1 arg2 harg2 arg3 harg3 arg4 harg4 arg5 harg5 arg6 harg6 f1 f3 f5)

theorem rows_H4_88 : Rows .f32 (outG (arg1.view.read (Elt Ideal) f1) (arg3.view.read (Elt Ideal) f3) i) row4 44
    (kernelRun.sl.H4_88 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 43 (by decide) (by decide) (by decide) (by decide) _ (out_step c i arg1 harg1 arg2 harg2 arg3 harg3 arg4 harg4 arg5 harg5 arg6 harg6 f1 f3 f5 42 (by decide) (by decide) (by decide) (by decide) _ (rows_H4_84 c i arg1 harg1 arg2 harg2 arg3 harg3 arg4 harg4 arg5 harg5 arg6 harg6 f1 f3 f5))

theorem rows_H4_92 : Rows .f32 (outG (arg1.view.read (Elt Ideal) f1) (arg3.view.read (Elt Ideal) f3) i) row4 46
    (kernelRun.sl.H4_92 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 45 (by decide) (by decide) (by decide) (by decide) _ (out_step c i arg1 harg1 arg2 harg2 arg3 harg3 arg4 harg4 arg5 harg5 arg6 harg6 f1 f3 f5 44 (by decide) (by decide) (by decide) (by decide) _ (rows_H4_88 c i arg1 harg1 arg2 harg2 arg3 harg3 arg4 harg4 arg5 harg5 arg6 harg6 f1 f3 f5))

theorem rows_H4_94 : Rows .f32 (outG (arg1.view.read (Elt Ideal) f1) (arg3.view.read (Elt Ideal) f3) i) row4 47
    (kernelRun.sl.H4_94 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 46 (by decide) (by decide) (by decide) (by decide) _ (rows_H4_92 c i arg1 harg1 arg2 harg2 arg3 harg3 arg4 harg4 arg5 harg5 arg6 harg6 f1 f3 f5)

theorem rows_H4_98 : Rows .f32 (outG (arg1.view.read (Elt Ideal) f1) (arg3.view.read (Elt Ideal) f3) i) row4 49
    (kernelRun.sl.H4_98 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 48 (by decide) (by decide) (by decide) (by decide) _ (out_step c i arg1 harg1 arg2 harg2 arg3 harg3 arg4 harg4 arg5 harg5 arg6 harg6 f1 f3 f5 47 (by decide) (by decide) (by decide) (by decide) _ (rows_H4_94 c i arg1 harg1 arg2 harg2 arg3 harg3 arg4 harg4 arg5 harg5 arg6 harg6 f1 f3 f5))

theorem rows_H4_102 : Rows .f32 (outG (arg1.view.read (Elt Ideal) f1) (arg3.view.read (Elt Ideal) f3) i) row4 51
    (kernelRun.sl.H4_102 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 50 (by decide) (by decide) (by decide) (by decide) _ (out_step c i arg1 harg1 arg2 harg2 arg3 harg3 arg4 harg4 arg5 harg5 arg6 harg6 f1 f3 f5 49 (by decide) (by decide) (by decide) (by decide) _ (rows_H4_98 c i arg1 harg1 arg2 harg2 arg3 harg3 arg4 harg4 arg5 harg5 arg6 harg6 f1 f3 f5))

theorem rows_H4_104 : Rows .f32 (outG (arg1.view.read (Elt Ideal) f1) (arg3.view.read (Elt Ideal) f3) i) row4 52
    (kernelRun.sl.H4_104 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 51 (by decide) (by decide) (by decide) (by decide) _ (rows_H4_102 c i arg1 harg1 arg2 harg2 arg3 harg3 arg4 harg4 arg5 harg5 arg6 harg6 f1 f3 f5)

theorem rows_H4_108 : Rows .f32 (outG (arg1.view.read (Elt Ideal) f1) (arg3.view.read (Elt Ideal) f3) i) row4 54
    (kernelRun.sl.H4_108 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 53 (by decide) (by decide) (by decide) (by decide) _ (out_step c i arg1 harg1 arg2 harg2 arg3 harg3 arg4 harg4 arg5 harg5 arg6 harg6 f1 f3 f5 52 (by decide) (by decide) (by decide) (by decide) _ (rows_H4_104 c i arg1 harg1 arg2 harg2 arg3 harg3 arg4 harg4 arg5 harg5 arg6 harg6 f1 f3 f5))

theorem rows_H4_112 : Rows .f32 (outG (arg1.view.read (Elt Ideal) f1) (arg3.view.read (Elt Ideal) f3) i) row4 56
    (kernelRun.sl.H4_112 (F := Ideal) c i arg1 harg1 arg2 harg2 arg3 harg3 arg4 harg4 arg5 harg5 arg6 harg6 f1 f3 f5) :=
  out_step c i arg1 harg1 arg2 harg2 arg3 harg3 arg4 harg4 arg5 harg5 arg6 harg6 f1 f3 f5 55 (by decide) (by decide) (by decide) (by decide) _ (out_step c i arg1 harg1 arg2 harg2 arg3 harg3 arg4 harg4 arg5 harg5 arg6 harg6 f1 f3 f5 54 (by decide) (by decide) (by decide) (by decide) _ (rows_H4_108 c i arg1 harg1 arg2 harg2 arg3 harg3 arg4 harg4 arg5 harg5 arg6 harg6 f1 f3 f5))

theorem rows_H6_4 : Rows .f32 (normG (arg1.view.read (Elt Ideal) f1) (arg3.view.read (Elt Ideal) f3) i) row6 2
    (kernelRun.sl.H6_4 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 1 (by decide) (by decide) (by decide) (by decide) (by decide) (by decide) _ (norm_step c i arg1 harg1 arg2 harg2 arg3 harg3 arg4 harg4 arg5 harg5 arg6 harg6 f1 f3 f5 0 (by decide) (by decide) (by decide) (by decide) (by decide) (by decide) _ (rows_nil _ _))

theorem rows_H6_10 : Rows .f32 (normG (arg1.view.read (Elt Ideal) f1) (arg3.view.read (Elt Ideal) f3) i) row6 5
    (kernelRun.sl.H6_10 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 4 (by decide) (by decide) (by decide) (by decide) (by decide) (by decide) _ (norm_step c i arg1 harg1 arg2 harg2 arg3 harg3 arg4 harg4 arg5 harg5 arg6 harg6 f1 f3 f5 3 (by decide) (by decide) (by decide) (by decide) (by decide) (by decide) _ (norm_step c i arg1 harg1 arg2 harg2 arg3 harg3 arg4 harg4 arg5 harg5 arg6 harg6 f1 f3 f5 2 (by decide) (by decide) (by decide) (by decide) (by decide) (by decide) _ (rows_H6_4 c i arg1 harg1 arg2 harg2 arg3 harg3 arg4 harg4 arg5 harg5 arg6 harg6 f1 f3 f5)))

theorem rows_H6_14 : Rows .f32 (normG (arg1.view.read (Elt Ideal) f1) (arg3.view.read (Elt Ideal) f3) i) row6 7
    (kernelRun.sl.H6_14 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 6 (by decide) (by decide) (by decide) (by decide) (by decide) (by decide) _ (norm_step c i arg1 harg1 arg2 harg2 arg3 harg3 arg4 harg4 arg5 harg5 arg6 harg6 f1 f3 f5 5 (by decide) (by decide) (by decide) (by decide) (by decide) (by decide) _ (rows_H6_10 c i arg1 harg1 arg2 harg2 arg3 harg3 arg4 harg4 arg5 harg5 arg6 harg6 f1 f3 f5))

theorem rows_H6_20 : Rows .f32 (normG (arg1.view.read (Elt Ideal) f1) (arg3.view.read (Elt Ideal) f3) i) row6 10
    (kernelRun.sl.H6_20 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 9 (by decide) (by decide) (by decide) (by decide) (by decide) (by decide) _ (norm_step c i arg1 harg1 arg2 harg2 arg3 harg3 arg4 harg4 arg5 harg5 arg6 harg6 f1 f3 f5 8 (by decide) (by decide) (by decide) (by decide) (by decide) (by decide) _ (norm_step c i arg1 harg1 arg2 harg2 arg3 harg3 arg4 harg4 arg5 harg5 arg6 harg6 f1 f3 f5 7 (by decide) (by decide) (by decide) (by decide) (by decide) (by decide) _ (rows_H6_14 c i arg1 harg1 arg2 harg2 arg3 harg3 arg4 harg4 arg5 harg5 arg6 harg6 f1 f3 f5)))

theorem rows_H6_24 : Rows .f32 (normG (arg1.view.read (Elt Ideal) f1) (arg3.view.read (Elt Ideal) f3) i) row6 12
    (kernelRun.sl.H6_24 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 11 (by decide) (by decide) (by decide) (by decide) (by decide) (by decide) _ (norm_step c i arg1 harg1 arg2 harg2 arg3 harg3 arg4 harg4 arg5 harg5 arg6 harg6 f1 f3 f5 10 (by decide) (by decide) (by decide) (by decide) (by decide) (by decide) _ (rows_H6_20 c i arg1 harg1 arg2 harg2 arg3 harg3 arg4 harg4 arg5 harg5 arg6 harg6 f1 f3 f5))

theorem rows_H6_30 : Rows .f32 (normG (arg1.view.read (Elt Ideal) f1) (arg3.view.read (Elt Ideal) f3) i) row6 15
    (kernelRun.sl.H6_30 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 14 (by decide) (by decide) (by decide) (by decide) (by decide) (by decide) _ (norm_step c i arg1 harg1 arg2 harg2 arg3 harg3 arg4 harg4 arg5 harg5 arg6 harg6 f1 f3 f5 13 (by decide) (by decide) (by decide) (by decide) (by decide) (by decide) _ (norm_step c i arg1 harg1 arg2 harg2 arg3 harg3 arg4 harg4 arg5 harg5 arg6 harg6 f1 f3 f5 12 (by decide) (by decide) (by decide) (by decide) (by decide) (by decide) _ (rows_H6_24 c i arg1 harg1 arg2 harg2 arg3 harg3 arg4 harg4 arg5 harg5 arg6 harg6 f1 f3 f5)))

theorem rows_H6_34 : Rows .f32 (normG (arg1.view.read (Elt Ideal) f1) (arg3.view.read (Elt Ideal) f3) i) row6 17
    (kernelRun.sl.H6_34 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 16 (by decide) (by decide) (by decide) (by decide) (by decide) (by decide) _ (norm_step c i arg1 harg1 arg2 harg2 arg3 harg3 arg4 harg4 arg5 harg5 arg6 harg6 f1 f3 f5 15 (by decide) (by decide) (by decide) (by decide) (by decide) (by decide) _ (rows_H6_30 c i arg1 harg1 arg2 harg2 arg3 harg3 arg4 harg4 arg5 harg5 arg6 harg6 f1 f3 f5))

theorem rows_H6_40 : Rows .f32 (normG (arg1.view.read (Elt Ideal) f1) (arg3.view.read (Elt Ideal) f3) i) row6 20
    (kernelRun.sl.H6_40 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 19 (by decide) (by decide) (by decide) (by decide) (by decide) (by decide) _ (norm_step c i arg1 harg1 arg2 harg2 arg3 harg3 arg4 harg4 arg5 harg5 arg6 harg6 f1 f3 f5 18 (by decide) (by decide) (by decide) (by decide) (by decide) (by decide) _ (norm_step c i arg1 harg1 arg2 harg2 arg3 harg3 arg4 harg4 arg5 harg5 arg6 harg6 f1 f3 f5 17 (by decide) (by decide) (by decide) (by decide) (by decide) (by decide) _ (rows_H6_34 c i arg1 harg1 arg2 harg2 arg3 harg3 arg4 harg4 arg5 harg5 arg6 harg6 f1 f3 f5)))

theorem rows_H6_44 : Rows .f32 (normG (arg1.view.read (Elt Ideal) f1) (arg3.view.read (Elt Ideal) f3) i) row6 22
    (kernelRun.sl.H6_44 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 21 (by decide) (by decide) (by decide) (by decide) (by decide) (by decide) _ (norm_step c i arg1 harg1 arg2 harg2 arg3 harg3 arg4 harg4 arg5 harg5 arg6 harg6 f1 f3 f5 20 (by decide) (by decide) (by decide) (by decide) (by decide) (by decide) _ (rows_H6_40 c i arg1 harg1 arg2 harg2 arg3 harg3 arg4 harg4 arg5 harg5 arg6 harg6 f1 f3 f5))

theorem rows_H6_50 : Rows .f32 (normG (arg1.view.read (Elt Ideal) f1) (arg3.view.read (Elt Ideal) f3) i) row6 25
    (kernelRun.sl.H6_50 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 24 (by decide) (by decide) (by decide) (by decide) (by decide) (by decide) _ (norm_step c i arg1 harg1 arg2 harg2 arg3 harg3 arg4 harg4 arg5 harg5 arg6 harg6 f1 f3 f5 23 (by decide) (by decide) (by decide) (by decide) (by decide) (by decide) _ (norm_step c i arg1 harg1 arg2 harg2 arg3 harg3 arg4 harg4 arg5 harg5 arg6 harg6 f1 f3 f5 22 (by decide) (by decide) (by decide) (by decide) (by decide) (by decide) _ (rows_H6_44 c i arg1 harg1 arg2 harg2 arg3 harg3 arg4 harg4 arg5 harg5 arg6 harg6 f1 f3 f5)))

theorem rows_H6_54 : Rows .f32 (normG (arg1.view.read (Elt Ideal) f1) (arg3.view.read (Elt Ideal) f3) i) row6 27
    (kernelRun.sl.H6_54 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 26 (by decide) (by decide) (by decide) (by decide) (by decide) (by decide) _ (norm_step c i arg1 harg1 arg2 harg2 arg3 harg3 arg4 harg4 arg5 harg5 arg6 harg6 f1 f3 f5 25 (by decide) (by decide) (by decide) (by decide) (by decide) (by decide) _ (rows_H6_50 c i arg1 harg1 arg2 harg2 arg3 harg3 arg4 harg4 arg5 harg5 arg6 harg6 f1 f3 f5))

theorem rows_H6_60 : Rows .f32 (normG (arg1.view.read (Elt Ideal) f1) (arg3.view.read (Elt Ideal) f3) i) row6 30
    (kernelRun.sl.H6_60 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 29 (by decide) (by decide) (by decide) (by decide) (by decide) (by decide) _ (norm_step c i arg1 harg1 arg2 harg2 arg3 harg3 arg4 harg4 arg5 harg5 arg6 harg6 f1 f3 f5 28 (by decide) (by decide) (by decide) (by decide) (by decide) (by decide) _ (norm_step c i arg1 harg1 arg2 harg2 arg3 harg3 arg4 harg4 arg5 harg5 arg6 harg6 f1 f3 f5 27 (by decide) (by decide) (by decide) (by decide) (by decide) (by decide) _ (rows_H6_54 c i arg1 harg1 arg2 harg2 arg3 harg3 arg4 harg4 arg5 harg5 arg6 harg6 f1 f3 f5)))

theorem rows_H6_64 : Rows .f32 (normG (arg1.view.read (Elt Ideal) f1) (arg3.view.read (Elt Ideal) f3) i) row6 32
    (kernelRun.sl.H6_64 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 31 (by decide) (by decide) (by decide) (by decide) (by decide) (by decide) _ (norm_step c i arg1 harg1 arg2 harg2 arg3 harg3 arg4 harg4 arg5 harg5 arg6 harg6 f1 f3 f5 30 (by decide) (by decide) (by decide) (by decide) (by decide) (by decide) _ (rows_H6_60 c i arg1 harg1 arg2 harg2 arg3 harg3 arg4 harg4 arg5 harg5 arg6 harg6 f1 f3 f5))

theorem rows_H6_70 : Rows .f32 (normG (arg1.view.read (Elt Ideal) f1) (arg3.view.read (Elt Ideal) f3) i) row6 35
    (kernelRun.sl.H6_70 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 34 (by decide) (by decide) (by decide) (by decide) (by decide) (by decide) _ (norm_step c i arg1 harg1 arg2 harg2 arg3 harg3 arg4 harg4 arg5 harg5 arg6 harg6 f1 f3 f5 33 (by decide) (by decide) (by decide) (by decide) (by decide) (by decide) _ (norm_step c i arg1 harg1 arg2 harg2 arg3 harg3 arg4 harg4 arg5 harg5 arg6 harg6 f1 f3 f5 32 (by decide) (by decide) (by decide) (by decide) (by decide) (by decide) _ (rows_H6_64 c i arg1 harg1 arg2 harg2 arg3 harg3 arg4 harg4 arg5 harg5 arg6 harg6 f1 f3 f5)))

theorem rows_H6_74 : Rows .f32 (normG (arg1.view.read (Elt Ideal) f1) (arg3.view.read (Elt Ideal) f3) i) row6 37
    (kernelRun.sl.H6_74 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 36 (by decide) (by decide) (by decide) (by decide) (by decide) (by decide) _ (norm_step c i arg1 harg1 arg2 harg2 arg3 harg3 arg4 harg4 arg5 harg5 arg6 harg6 f1 f3 f5 35 (by decide) (by decide) (by decide) (by decide) (by decide) (by decide) _ (rows_H6_70 c i arg1 harg1 arg2 harg2 arg3 harg3 arg4 harg4 arg5 harg5 arg6 harg6 f1 f3 f5))

theorem rows_H6_80 : Rows .f32 (normG (arg1.view.read (Elt Ideal) f1) (arg3.view.read (Elt Ideal) f3) i) row6 40
    (kernelRun.sl.H6_80 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 39 (by decide) (by decide) (by decide) (by decide) (by decide) (by decide) _ (norm_step c i arg1 harg1 arg2 harg2 arg3 harg3 arg4 harg4 arg5 harg5 arg6 harg6 f1 f3 f5 38 (by decide) (by decide) (by decide) (by decide) (by decide) (by decide) _ (norm_step c i arg1 harg1 arg2 harg2 arg3 harg3 arg4 harg4 arg5 harg5 arg6 harg6 f1 f3 f5 37 (by decide) (by decide) (by decide) (by decide) (by decide) (by decide) _ (rows_H6_74 c i arg1 harg1 arg2 harg2 arg3 harg3 arg4 harg4 arg5 harg5 arg6 harg6 f1 f3 f5)))

theorem rows_H6_84 : Rows .f32 (normG (arg1.view.read (Elt Ideal) f1) (arg3.view.read (Elt Ideal) f3) i) row6 42
    (kernelRun.sl.H6_84 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 41 (by decide) (by decide) (by decide) (by decide) (by decide) (by decide) _ (norm_step c i arg1 harg1 arg2 harg2 arg3 harg3 arg4 harg4 arg5 harg5 arg6 harg6 f1 f3 f5 40 (by decide) (by decide) (by decide) (by decide) (by decide) (by decide) _ (rows_H6_80 c i arg1 harg1 arg2 harg2 arg3 harg3 arg4 harg4 arg5 harg5 arg6 harg6 f1 f3 f5))

theorem rows_H6_90 : Rows .f32 (normG (arg1.view.read (Elt Ideal) f1) (arg3.view.read (Elt Ideal) f3) i) row6 45
    (kernelRun.sl.H6_90 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 44 (by decide) (by decide) (by decide) (by decide) (by decide) (by decide) _ (norm_step c i arg1 harg1 arg2 harg2 arg3 harg3 arg4 harg4 arg5 harg5 arg6 harg6 f1 f3 f5 43 (by decide) (by decide) (by decide) (by decide) (by decide) (by decide) _ (norm_step c i arg1 harg1 arg2 harg2 arg3 harg3 arg4 harg4 arg5 harg5 arg6 harg6 f1 f3 f5 42 (by decide) (by decide) (by decide) (by decide) (by decide) (by decide) _ (rows_H6_84 c i arg1 harg1 arg2 harg2 arg3 harg3 arg4 harg4 arg5 harg5 arg6 harg6 f1 f3 f5)))

theorem rows_H6_94 : Rows .f32 (normG (arg1.view.read (Elt Ideal) f1) (arg3.view.read (Elt Ideal) f3) i) row6 47
    (kernelRun.sl.H6_94 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 46 (by decide) (by decide) (by decide) (by decide) (by decide) (by decide) _ (norm_step c i arg1 harg1 arg2 harg2 arg3 harg3 arg4 harg4 arg5 harg5 arg6 harg6 f1 f3 f5 45 (by decide) (by decide) (by decide) (by decide) (by decide) (by decide) _ (rows_H6_90 c i arg1 harg1 arg2 harg2 arg3 harg3 arg4 harg4 arg5 harg5 arg6 harg6 f1 f3 f5))

theorem rows_H6_100 : Rows .f32 (normG (arg1.view.read (Elt Ideal) f1) (arg3.view.read (Elt Ideal) f3) i) row6 50
    (kernelRun.sl.H6_100 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 49 (by decide) (by decide) (by decide) (by decide) (by decide) (by decide) _ (norm_step c i arg1 harg1 arg2 harg2 arg3 harg3 arg4 harg4 arg5 harg5 arg6 harg6 f1 f3 f5 48 (by decide) (by decide) (by decide) (by decide) (by decide) (by decide) _ (norm_step c i arg1 harg1 arg2 harg2 arg3 harg3 arg4 harg4 arg5 harg5 arg6 harg6 f1 f3 f5 47 (by decide) (by decide) (by decide) (by decide) (by decide) (by decide) _ (rows_H6_94 c i arg1 harg1 arg2 harg2 arg3 harg3 arg4 harg4 arg5 harg5 arg6 harg6 f1 f3 f5)))

theorem rows_H6_104 : Rows .f32 (normG (arg1.view.read (Elt Ideal) f1) (arg3.view.read (Elt Ideal) f3) i) row6 52
    (kernelRun.sl.H6_104 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 51 (by decide) (by decide) (by decide) (by decide) (by decide) (by decide) _ (norm_step c i arg1 harg1 arg2 harg2 arg3 harg3 arg4 harg4 arg5 harg5 arg6 harg6 f1 f3 f5 50 (by decide) (by decide) (by decide) (by decide) (by decide) (by decide) _ (rows_H6_100 c i arg1 harg1 arg2 harg2 arg3 harg3 arg4 harg4 arg5 harg5 arg6 harg6 f1 f3 f5))

theorem rows_H6_110 : Rows .f32 (normG (arg1.view.read (Elt Ideal) f1) (arg3.view.read (Elt Ideal) f3) i) row6 55
    (kernelRun.sl.H6_110 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 54 (by decide) (by decide) (by decide) (by decide) (by decide) (by decide) _ (norm_step c i arg1 harg1 arg2 harg2 arg3 harg3 arg4 harg4 arg5 harg5 arg6 harg6 f1 f3 f5 53 (by decide) (by decide) (by decide) (by decide) (by decide) (by decide) _ (norm_step c i arg1 harg1 arg2 harg2 arg3 harg3 arg4 harg4 arg5 harg5 arg6 harg6 f1 f3 f5 52 (by decide) (by decide) (by decide) (by decide) (by decide) (by decide) _ (rows_H6_104 c i arg1 harg1 arg2 harg2 arg3 harg3 arg4 harg4 arg5 harg5 arg6 harg6 f1 f3 f5)))

theorem rows_H6_112 : Rows .f32 (normG (arg1.view.read (Elt Ideal) f1) (arg3.view.read (Elt Ideal) f3) i) row6 56
    (kernelRun.sl.H6_112 (F := Ideal) c i arg1 harg1 arg2 harg2 arg3 harg3 arg4 harg4 arg5 harg5 arg6 harg6 f1 f3 f5) :=
  norm_step c i arg1 harg1 arg2 harg2 arg3 harg3 arg4 harg4 arg5 harg5 arg6 harg6 f1 f3 f5 55 (by decide) (by decide) (by decide) (by decide) (by decide) (by decide) _ (rows_H6_110 c i arg1 harg1 arg2 harg2 arg3 harg3 arg4 harg4 arg5 harg5 arg6 harg6 f1 f3 f5)

end Cert.KernelIdeal.Hand
-- ==== Proof.Dist.lean ====
module

public import proofs.«01_k».proof.Proof.Stores

@[expose] public section

noncomputable section

namespace Cert.KernelIdeal.Hand

open Cert.KernelIdeal Cert.KernelIdeal.Gen

open Idealize.ShloMosaic

/-- One row of the second phase: the distances of slot `k` from the counts, all the norms, the slot's norms and its inner products. -/
def distPay (k : Nat) (cnt : Vec Ideal S1x256 .i32) (nall : Vec Ideal S56x256 .f32) (nrow : Vec Ideal S1x256 .f32) (out : Vec Ideal S1x56x256 .f32) :
    FVec Ideal S1x56x256 .f32 :=
  shapeCast S1x56x256
    (select (andi (k0_pay316 (F := Ideal) cnt) (broadcastTo S56x256 (cmpi .sgt (k0_pay315 (F := Ideal) cnt) (broadcast S1x256 (BitVec.ofNat 32 k))) broadcasts_S1x256_S56x256))
      (subf (addf (broadcastTo S56x256 nrow broadcasts_S1x256_S56x256) nall)
        (mulf (broadcast S56x256 (Scalar.ofBits .f32 0x40000000#32)) (shapeCast S56x256 out shapeCasts_S1x56x256_S56x256)))
      (broadcast S56x256 (Scalar.ofBits .f32 0xBF800000#32)))
    shapeCasts_S56x256_S1x56x256

/-- The distance of slots `k` and `j` of a node with vectors `a` and count `cnt`, `-1` where one of the slots is empty. -/
def distAt (a : FVec Ideal S56x256 .bf16) (cnt : BitVec 32) (k j : Fin 56) : EReal :=
  Scalar.select (IntOp.andi (IntOp.cmpi CmpIPredicate.slt (BitVec.ofNat 32 j.val) cnt) (IntOp.cmpi CmpIPredicate.sgt cnt (BitVec.ofNat 32 k.val)))
    (dotAt a k k + dotAt a j j - Ideal.ofBits FTy.f32 1073741824#32 * dotAt a k j) (Ideal.ofBits FTy.f32 3212836864#32)

/-- The distances of a block of 256 nodes. -/
def distG (X1 : S2048.Idx → BitVec 32) (X2 : S1x256.Idx → BitVec 32) (X3 : S7168x128.Idx → BitVec 32) (i : grid0.Coords) : S56x56x256.Idx → EReal :=
  fun y => distAt (nodeA X1 X3 i (y 2)) (X2 (ix2 0 (y 2))) (y 0) (y 1)

theorem distG_eq (X1 : S2048.Idx → BitVec 32) (X2 : S1x256.Idx → BitVec 32) (X3 : S7168x128.Idx → BitVec 32) (i : grid0.Coords) (a b : Fin 56) (n : Fin 256) :
    distG X1 X2 X3 i (ix3 a b n) = distAt (nodeA X1 X3 i n) (X2 (ix2 0 n)) a b := rfl

theorem distPay_at (k : Nat) (cnt : Vec Ideal S1x256 .i32) (nall : Vec Ideal S56x256 .f32) (nrow : Vec Ideal S1x256 .f32) (out : Vec Ideal S1x56x256 .f32)
    (u : Fin 1) (j : Fin 56) (n : Fin 256) :
    distPay k cnt nall nrow out (ix3 u j n : S1x56x256.Idx) =
      Scalar.select
      (IntOp.andi (IntOp.cmpi CmpIPredicate.slt (BitVec.ofNat 32 j.val) (cnt (ix2 0 n)))
        (IntOp.cmpi CmpIPredicate.sgt (cnt (ix2 0 n)) (BitVec.ofNat 32 k)))
      ((nrow (ix2 0 n) : EReal) + nall (ix2 j n) - Ideal.ofBits FTy.f32 1073741824#32 * out (ix3 0 j n))
      (Ideal.ofBits FTy.f32 3212836864#32) := by
  unfold distPay
  unfold_payloads
  pointwise

/-- The rows before `k` hold the distances, the others still the inner products. -/
structure Stage (D O : S56x56x256.Idx → EReal) (k : Nat) (L : List (View.Piece (Elt Ideal) S56x56x256 .f32)) : Prop where
  cover : ∀ y, ∃ p ∈ L, y ∈ p.1.set
  done : ∀ y, row4 y < k → View.canon L y = D y
  todo : ∀ y, k ≤ row4 y → View.canon L y = O y

/-- Before the second phase every row holds the inner products. -/
theorem stage_zero (D O : S56x56x256.Idx → EReal) (L : List (View.Piece (Elt Ideal) S56x56x256 .f32)) (h : Rows .f32 O row4 56 L) : Stage D O 0 L :=
  ⟨fun y => h.cover y (y 0).isLt, fun _ hy => absurd hy (Nat.not_lt_zero _),
    fun y _ => View.canon_apply_of_pieces O L h.blocks.mem y (h.cover y (y 0).isLt)⟩

theorem select_congr {k j : Nat} {x x' : BitVec 32} {n n' r r' o o' : EReal} (e0 : x = x') (e1 : n = n') (e2 : r = r') (e3 : o = o') :
    Scalar.select (IntOp.andi (IntOp.cmpi CmpIPredicate.slt (BitVec.ofNat 32 j) x) (IntOp.cmpi CmpIPredicate.sgt x (BitVec.ofNat 32 k)))
        (r + n - Ideal.ofBits FTy.f32 1073741824#32 * o) (Ideal.ofBits FTy.f32 3212836864#32)
      = Scalar.select (IntOp.andi (IntOp.cmpi CmpIPredicate.slt (BitVec.ofNat 32 j) x') (IntOp.cmpi CmpIPredicate.sgt x' (BitVec.ofNat 32 k)))
        (r' + n' - Ideal.ofBits FTy.f32 1073741824#32 * o') (Ideal.ofBits FTy.f32 3212836864#32) := by
  subst e0 e1 e2 e3; rfl

variable (i : grid0.Coords) (V2 : View sig .tc .vmem S1x256 .i32) (V4 : View sig .tc .vmem S56x56x256 .f32) (V6 : View sig .tc .vmem S56x256 .f32)
  (f2 : V2.ty.Contents (Elt Ideal)) (X1 : S2048.Idx → BitVec 32) (X3 : S7168x128.Idx → BitVec 32)

/-- One row of the second phase turns the slot's inner products into its distances. -/
theorem dist_step (N : List (View.Piece (Elt Ideal) S56x256 .f32)) (hN : Rows .f32 (normG X1 X3 i) row6 56 N)
    (k : Nat) (hk : k < 56) (inbC inbA inbN inbO) (L : List (View.Piece (Elt Ideal) S56x56x256 .f32))
    (h : Stage (distG X1 (V2.read (Elt Ideal) f2) X3 i) (outG X1 X3 i) k L) :
    Stage (distG X1 (V2.read (Elt Ideal) f2) X3 i) (outG X1 X3 i) (k + 1)
      (⟨Rect.unit (s := S56x56x256) ![k, 0, 0] S1x56x256.size inbO,
        distPay k (View.readAt (Elt Ideal) V2 (Rect.unit (s := S1x256) ![0, 0] S1x256.size inbC).toLoadRect f2)
          (V6.readCov N (Rect.unit (s := S56x256) ![0, 0] S56x256.size inbA).toLoadRect)
          (V6.readCov N (Rect.unit (s := S56x256) ![k, 0] S1x256.size inbN).toLoadRect)
          (V4.readCov L (Rect.unit (s := S56x56x256) ![k, 0, 0] S1x56x256.size inbO).toLoadRect)⟩ :: L) := by
  have hcan : ∀ y, View.canon N y = normG X1 X3 i y := fun y => View.canon_apply_of_pieces _ N hN.blocks.mem y (hN.cover y (y 0).isLt)
  have hmem : ∀ y : S56x56x256.Idx, y ∈ (Rect.unit (s := S56x56x256) ![k, 0, 0] S1x56x256.size inbO).set ↔ row4 y = k := by
    intro y
    have h1 : (y 1).val < 56 := (y 1).isLt
    have h2 : (y 2).val < 256 := (y 2).isLt
    refine Rect.mem_set_unit.trans ⟨fun hm => ?_, fun hm => fun d => ?_⟩
    · have h0 : k ≤ (y 0).val ∧ (y 0).val < k + 1 := hm 0
      show (y 0).val = k
      omega
    · have h0 : (y 0).val = k := hm
      match d with
      | ⟨0, _⟩ => exact ⟨by show k ≤ (y 0).val; omega, by show (y 0).val < k + 1; omega⟩
      | ⟨1, _⟩ => exact ⟨Nat.zero_le _, by show (y 1).val < 0 + 56; omega⟩
      | ⟨2, _⟩ => exact ⟨Nat.zero_le _, by show (y 2).val < 0 + 256; omega⟩
  have hnot : ∀ (y : S56x56x256.Idx) (w : (Rect.unit (s := S56x56x256) ![k, 0, 0] S1x56x256.size inbO).shape.Idx → Elt Ideal .f32), row4 y ≠ k →
      View.canon ((⟨Rect.unit (s := S56x56x256) ![k, 0, 0] S1x56x256.size inbO, w⟩ : View.Piece (Elt Ideal) S56x56x256 .f32) :: L) y = View.canon L y :=
    fun y w hne => View.canon_cons_of_not_mem ⟨Rect.unit (s := S56x56x256) ![k, 0, 0] S1x56x256.size inbO, w⟩ L (fun hm => hne ((hmem y).mp hm))
  refine ⟨fun y => ?_, fun y hy => ?_, fun y hy => ?_⟩
  · obtain ⟨p, hp, hm⟩ := h.cover y
    exact ⟨p, List.mem_cons_of_mem _ hp, hm⟩
  · by_cases hyk : row4 y = k
    · have h1 : (y 1).val < 56 := (y 1).isLt
      have h2 : (y 2).val < 256 := (y 2).isLt
      have hyk' : (y 0).val = k := hyk
      have hidx : (Rect.unit (s := S56x56x256) ![k, 0, 0] S1x56x256.size inbO).emb (ix3 0 (y 1) (y 2) : S1x56x256.Idx) = y := by
        refine (ix3_off (inb := inbO) k 0 0 rfl (ix3 0 (y 1) (y 2) : S1x56x256.Idx) (by show k + 0 < 56; omega) (by show 0 + (y 1).val < 56; omega) (by show 0 + (y 2).val < 256; omega)).trans ?_
        funext d
        match d with
        | ⟨0, _⟩ => exact Fin.ext (by show k + 0 = (y 0).val; omega)
        | ⟨1, _⟩ => exact Fin.ext (Nat.zero_add _)
        | ⟨2, _⟩ => exact Fin.ext (Nat.zero_add _)
      refine (congrArg (View.canon _) hidx.symm).trans ((View.canon_cons_emb _ _ L _).trans ?_)
      refine (distPay_at k _ _ _ _ 0 (y 1) (y 2)).trans ?_
      have e0 : View.readAt (Elt Ideal) V2 (Rect.unit (s := S1x256) ![0, 0] S1x256.size inbC).toLoadRect f2 (ix2 0 (y 2)) = V2.read (Elt Ideal) f2 (ix2 0 (y 2)) := by
        refine (View.readAt_apply ..).trans (congrArg (V2.read (Elt Ideal) f2) ((ix2_off (inb := inbC) 0 0 rfl (ix2 0 (y 2) : S1x256.Idx) (by show 0 + 0 < 1; decide) (by show 0 + (y 2).val < 256; omega)).trans ?_))
        funext d
        match d with
        | ⟨0, _⟩ => rfl
        | ⟨1, _⟩ => exact Fin.ext (Nat.zero_add _)
      have e1 : V6.readCov N (Rect.unit (s := S56x256) ![0, 0] S56x256.size inbA).toLoadRect (ix2 (y 1) (y 2)) = dotAt (nodeA X1 X3 i (y 2)) (y 1) (y 1) := by
        refine (congrFun (View.readCov_eq_canon' V6 N _) _).trans ((hcan _).trans ?_)
        refine Eq.trans (congrArg (normG X1 X3 i) (a₂ := ix2 (y 1) (y 2)) ((ix2_off (inb := inbA) 0 0 rfl (ix2 (y 1) (y 2) : S56x256.Idx) (by show 0 + (y 1).val < 56; omega) (by show 0 + (y 2).val < 256; omega)).trans ?_)) rfl
        funext d
        match d with
        | ⟨0, _⟩ => exact Fin.ext (Nat.zero_add _)
        | ⟨1, _⟩ => exact Fin.ext (Nat.zero_add _)
      have e2 : V6.readCov N (Rect.unit (s := S56x256) ![k, 0] S1x256.size inbN).toLoadRect (ix2 0 (y 2)) = dotAt (nodeA X1 X3 i (y 2)) (y 0) (y 0) := by
        refine (congrFun (View.readCov_eq_canon' V6 N _) _).trans ((hcan _).trans ?_)
        refine Eq.trans (congrArg (normG X1 X3 i) (a₂ := ix2 (y 0) (y 2)) ((ix2_off (inb := inbN) k 0 rfl (ix2 0 (y 2) : S1x256.Idx) (by show k + 0 < 56; omega) (by show 0 + (y 2).val < 256; omega)).trans ?_)) rfl
        funext d
        match d with
        | ⟨0, _⟩ => exact Fin.ext (by show k + 0 = (y 0).val; omega)
        | ⟨1, _⟩ => exact Fin.ext (Nat.zero_add _)
      have e3 : V4.readCov L (Rect.unit (s := S56x56x256) ![k, 0, 0] S1x56x256.size inbO).toLoadRect (ix3 0 (y 1) (y 2)) = dotAt (nodeA X1 X3 i (y 2)) (y 0) (y 1) := by
        refine (congrFun (View.readCov_eq_canon' V4 L _) _).trans ?_
        exact (congrArg (View.canon L) hidx).trans (h.todo y (le_of_eq hyk.symm))
      have e4 : distG X1 (V2.read (Elt Ideal) f2) X3 i y = Scalar.select
          (IntOp.andi (IntOp.cmpi CmpIPredicate.slt (BitVec.ofNat 32 (y 1).val) (V2.read (Elt Ideal) f2 (ix2 0 (y 2))))
            (IntOp.cmpi CmpIPredicate.sgt (V2.read (Elt Ideal) f2 (ix2 0 (y 2))) (BitVec.ofNat 32 (y 0).val)))
          (dotAt (nodeA X1 X3 i (y 2)) (y 0) (y 0) + dotAt (nodeA X1 X3 i (y 2)) (y 1) (y 1) - Ideal.ofBits FTy.f32 1073741824#32 * dotAt (nodeA X1 X3 i (y 2)) (y 0) (y 1))
          (Ideal.ofBits FTy.f32 3212836864#32) := rfl
      rw [e4, hyk']
      exact select_congr e0 e1 e2 e3
    · exact (hnot y _ hyk).trans (h.done y (by omega))
  · exact (hnot y _ (by omega)).trans (h.todo y (by omega))

end Cert.KernelIdeal.Hand
-- ==== Proof.Phase2.lean ====
module

public import proofs.«01_k».proof.Proof.Phase1
public import proofs.«01_k».proof.Proof.Dist

@[expose] public section

noncomputable section

namespace Cert.KernelIdeal.Hand

open Cert.KernelIdeal Cert.KernelIdeal.Gen

open Idealize.ShloMosaic

variable (c : Dev nD) (i : grid0.Coords)
  (arg1 : Memref sig .tc .smem S2048 .i32) (harg1 : arg1.IsWhole) (arg2 : Memref sig .tc .vmem S1x256 .i32) (harg2 : arg2.IsWhole) (arg3 : Memref sig .tc .vmem S7168x128 .i32) (harg3 : arg3.IsWhole) (arg4 : Memref sig .tc .vmem S56x56x256 .f32) (harg4 : arg4.IsWhole) (arg5 : Memref sig .tc .vmem S56x128x128 .f32) (harg5 : arg5.IsWhole) (arg6 : Memref sig .tc .vmem S56x256 .f32) (harg6 : arg6.IsWhole)
  (f1 : BufTy.Contents (Elt Ideal) arg1.view.ty) (f2 : BufTy.Contents (Elt Ideal) arg2.view.ty) (f3 : BufTy.Contents (Elt Ideal) arg3.view.ty) (f5 : BufTy.Contents (Elt Ideal) arg5.view.ty)

theorem stage_1 : Stage (distG (arg1.view.read (Elt Ideal) f1) (arg2.view.read (Elt Ideal) f2) (arg3.view.read (Elt Ideal) f3) i) (outG (arg1.view.read (Elt Ideal) f1) (arg3.view.read (Elt Ideal) f3) i) 1 (kernelRun.sl.H4_113 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 0 (by decide) (by decide) (by decide) (by decide) (by decide) _ (stage_zero _ _ _ (rows_H4_112 c i arg1 harg1 arg2 harg2 arg3 harg3 arg4 harg4 arg5 harg5 arg6 harg6 f1 f3 f5))

theorem stage_2 : Stage (distG (arg1.view.read (Elt Ideal) f1) (arg2.view.read (Elt Ideal) f2) (arg3.view.read (Elt Ideal) f3) i) (outG (arg1.view.read (Elt Ideal) f1) (arg3.view.read (Elt Ideal) f3) i) 2 (kernelRun.sl.H4_114 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 1 (by decide) (by decide) (by decide) (by decide) (by decide) _ (stage_1 c i arg1 harg1 arg2 harg2 arg3 harg3 arg4 harg4 arg5 harg5 arg6 harg6 f1 f2 f3 f5)

theorem stage_3 : Stage (distG (arg1.view.read (Elt Ideal) f1) (arg2.view.read (Elt Ideal) f2) (arg3.view.read (Elt Ideal) f3) i) (outG (arg1.view.read (Elt Ideal) f1) (arg3.view.read (Elt Ideal) f3) i) 3 (kernelRun.sl.H4_115 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 2 (by decide) (by decide) (by decide) (by decide) (by decide) _ (stage_2 c i arg1 harg1 arg2 harg2 arg3 harg3 arg4 harg4 arg5 harg5 arg6 harg6 f1 f2 f3 f5)

theorem stage_4 : Stage (distG (arg1.view.read (Elt Ideal) f1) (arg2.view.read (Elt Ideal) f2) (arg3.view.read (Elt Ideal) f3) i) (outG (arg1.view.read (Elt Ideal) f1) (arg3.view.read (Elt Ideal) f3) i) 4 (kernelRun.sl.H4_116 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 3 (by decide) (by decide) (by decide) (by decide) (by decide) _ (stage_3 c i arg1 harg1 arg2 harg2 arg3 harg3 arg4 harg4 arg5 harg5 arg6 harg6 f1 f2 f3 f5)

theorem stage_5 : Stage (distG (arg1.view.read (Elt Ideal) f1) (arg2.view.read (Elt Ideal) f2) (arg3.view.read (Elt Ideal) f3) i) (outG (arg1.view.read (Elt Ideal) f1) (arg3.view.read (Elt Ideal) f3) i) 5 (kernelRun.sl.H4_117 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 4 (by decide) (by decide) (by decide) (by decide) (by decide) _ (stage_4 c i arg1 harg1 arg2 harg2 arg3 harg3 arg4 harg4 arg5 harg5 arg6 harg6 f1 f2 f3 f5)

theorem stage_6 : Stage (distG (arg1.view.read (Elt Ideal) f1) (arg2.view.read (Elt Ideal) f2) (arg3.view.read (Elt Ideal) f3) i) (outG (arg1.view.read (Elt Ideal) f1) (arg3.view.read (Elt Ideal) f3) i) 6 (kernelRun.sl.H4_118 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 5 (by decide) (by decide) (by decide) (by decide) (by decide) _ (stage_5 c i arg1 harg1 arg2 harg2 arg3 harg3 arg4 harg4 arg5 harg5 arg6 harg6 f1 f2 f3 f5)

theorem stage_7 : Stage (distG (arg1.view.read (Elt Ideal) f1) (arg2.view.read (Elt Ideal) f2) (arg3.view.read (Elt Ideal) f3) i) (outG (arg1.view.read (Elt Ideal) f1) (arg3.view.read (Elt Ideal) f3) i) 7 (kernelRun.sl.H4_119 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 6 (by decide) (by decide) (by decide) (by decide) (by decide) _ (stage_6 c i arg1 harg1 arg2 harg2 arg3 harg3 arg4 harg4 arg5 harg5 arg6 harg6 f1 f2 f3 f5)

theorem stage_8 : Stage (distG (arg1.view.read (Elt Ideal) f1) (arg2.view.read (Elt Ideal) f2) (arg3.view.read (Elt Ideal) f3) i) (outG (arg1.view.read (Elt Ideal) f1) (arg3.view.read (Elt Ideal) f3) i) 8 (kernelRun.sl.H4_120 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 7 (by decide) (by decide) (by decide) (by decide) (by decide) _ (stage_7 c i arg1 harg1 arg2 harg2 arg3 harg3 arg4 harg4 arg5 harg5 arg6 harg6 f1 f2 f3 f5)

theorem stage_9 : Stage (distG (arg1.view.read (Elt Ideal) f1) (arg2.view.read (Elt Ideal) f2) (arg3.view.read (Elt Ideal) f3) i) (outG (arg1.view.read (Elt Ideal) f1) (arg3.view.read (Elt Ideal) f3) i) 9 (kernelRun.sl.H4_121 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 8 (by decide) (by decide) (by decide) (by decide) (by decide) _ (stage_8 c i arg1 harg1 arg2 harg2 arg3 harg3 arg4 harg4 arg5 harg5 arg6 harg6 f1 f2 f3 f5)

theorem stage_10 : Stage (distG (arg1.view.read (Elt Ideal) f1) (arg2.view.read (Elt Ideal) f2) (arg3.view.read (Elt Ideal) f3) i) (outG (arg1.view.read (Elt Ideal) f1) (arg3.view.read (Elt Ideal) f3) i) 10 (kernelRun.sl.H4_122 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 9 (by decide) (by decide) (by decide) (by decide) (by decide) _ (stage_9 c i arg1 harg1 arg2 harg2 arg3 harg3 arg4 harg4 arg5 harg5 arg6 harg6 f1 f2 f3 f5)

theorem stage_11 : Stage (distG (arg1.view.read (Elt Ideal) f1) (arg2.view.read (Elt Ideal) f2) (arg3.view.read (Elt Ideal) f3) i) (outG (arg1.view.read (Elt Ideal) f1) (arg3.view.read (Elt Ideal) f3) i) 11 (kernelRun.sl.H4_123 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 10 (by decide) (by decide) (by decide) (by decide) (by decide) _ (stage_10 c i arg1 harg1 arg2 harg2 arg3 harg3 arg4 harg4 arg5 harg5 arg6 harg6 f1 f2 f3 f5)

theorem stage_12 : Stage (distG (arg1.view.read (Elt Ideal) f1) (arg2.view.read (Elt Ideal) f2) (arg3.view.read (Elt Ideal) f3) i) (outG (arg1.view.read (Elt Ideal) f1) (arg3.view.read (Elt Ideal) f3) i) 12 (kernelRun.sl.H4_124 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 11 (by decide) (by decide) (by decide) (by decide) (by decide) _ (stage_11 c i arg1 harg1 arg2 harg2 arg3 harg3 arg4 harg4 arg5 harg5 arg6 harg6 f1 f2 f3 f5)

theorem stage_13 : Stage (distG (arg1.view.read (Elt Ideal) f1) (arg2.view.read (Elt Ideal) f2) (arg3.view.read (Elt Ideal) f3) i) (outG (arg1.view.read (Elt Ideal) f1) (arg3.view.read (Elt Ideal) f3) i) 13 (kernelRun.sl.H4_125 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 12 (by decide) (by decide) (by decide) (by decide) (by decide) _ (stage_12 c i arg1 harg1 arg2 harg2 arg3 harg3 arg4 harg4 arg5 harg5 arg6 harg6 f1 f2 f3 f5)

theorem stage_14 : Stage (distG (arg1.view.read (Elt Ideal) f1) (arg2.view.read (Elt Ideal) f2) (arg3.view.read (Elt Ideal) f3) i) (outG (arg1.view.read (Elt Ideal) f1) (arg3.view.read (Elt Ideal) f3) i) 14 (kernelRun.sl.H4_126 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 13 (by decide) (by decide) (by decide) (by decide) (by decide) _ (stage_13 c i arg1 harg1 arg2 harg2 arg3 harg3 arg4 harg4 arg5 harg5 arg6 harg6 f1 f2 f3 f5)

theorem stage_15 : Stage (distG (arg1.view.read (Elt Ideal) f1) (arg2.view.read (Elt Ideal) f2) (arg3.view.read (Elt Ideal) f3) i) (outG (arg1.view.read (Elt Ideal) f1) (arg3.view.read (Elt Ideal) f3) i) 15 (kernelRun.sl.H4_127 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 14 (by decide) (by decide) (by decide) (by decide) (by decide) _ (stage_14 c i arg1 harg1 arg2 harg2 arg3 harg3 arg4 harg4 arg5 harg5 arg6 harg6 f1 f2 f3 f5)

theorem stage_16 : Stage (distG (arg1.view.read (Elt Ideal) f1) (arg2.view.read (Elt Ideal) f2) (arg3.view.read (Elt Ideal) f3) i) (outG (arg1.view.read (Elt Ideal) f1) (arg3.view.read (Elt Ideal) f3) i) 16 (kernelRun.sl.H4_128 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 15 (by decide) (by decide) (by decide) (by decide) (by decide) _ (stage_15 c i arg1 harg1 arg2 harg2 arg3 harg3 arg4 harg4 arg5 harg5 arg6 harg6 f1 f2 f3 f5)

theorem stage_17 : Stage (distG (arg1.view.read (Elt Ideal) f1) (arg2.view.read (Elt Ideal) f2) (arg3.view.read (Elt Ideal) f3) i) (outG (arg1.view.read (Elt Ideal) f1) (arg3.view.read (Elt Ideal) f3) i) 17 (kernelRun.sl.H4_129 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 16 (by decide) (by decide) (by decide) (by decide) (by decide) _ (stage_16 c i arg1 harg1 arg2 harg2 arg3 harg3 arg4 harg4 arg5 harg5 arg6 harg6 f1 f2 f3 f5)

theorem stage_18 : Stage (distG (arg1.view.read (Elt Ideal) f1) (arg2.view.read (Elt Ideal) f2) (arg3.view.read (Elt Ideal) f3) i) (outG (arg1.view.read (Elt Ideal) f1) (arg3.view.read (Elt Ideal) f3) i) 18 (kernelRun.sl.H4_130 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 17 (by decide) (by decide) (by decide) (by decide) (by decide) _ (stage_17 c i arg1 harg1 arg2 harg2 arg3 harg3 arg4 harg4 arg5 harg5 arg6 harg6 f1 f2 f3 f5)

theorem stage_19 : Stage (distG (arg1.view.read (Elt Ideal) f1) (arg2.view.read (Elt Ideal) f2) (arg3.view.read (Elt Ideal) f3) i) (outG (arg1.view.read (Elt Ideal) f1) (arg3.view.read (Elt Ideal) f3) i) 19 (kernelRun.sl.H4_131 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 18 (by decide) (by decide) (by decide) (by decide) (by decide) _ (stage_18 c i arg1 harg1 arg2 harg2 arg3 harg3 arg4 harg4 arg5 harg5 arg6 harg6 f1 f2 f3 f5)

theorem stage_20 : Stage (distG (arg1.view.read (Elt Ideal) f1) (arg2.view.read (Elt Ideal) f2) (arg3.view.read (Elt Ideal) f3) i) (outG (arg1.view.read (Elt Ideal) f1) (arg3.view.read (Elt Ideal) f3) i) 20 (kernelRun.sl.H4_132 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 19 (by decide) (by decide) (by decide) (by decide) (by decide) _ (stage_19 c i arg1 harg1 arg2 harg2 arg3 harg3 arg4 harg4 arg5 harg5 arg6 harg6 f1 f2 f3 f5)

theorem stage_21 : Stage (distG (arg1.view.read (Elt Ideal) f1) (arg2.view.read (Elt Ideal) f2) (arg3.view.read (Elt Ideal) f3) i) (outG (arg1.view.read (Elt Ideal) f1) (arg3.view.read (Elt Ideal) f3) i) 21 (kernelRun.sl.H4_133 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 20 (by decide) (by decide) (by decide) (by decide) (by decide) _ (stage_20 c i arg1 harg1 arg2 harg2 arg3 harg3 arg4 harg4 arg5 harg5 arg6 harg6 f1 f2 f3 f5)

theorem stage_22 : Stage (distG (arg1.view.read (Elt Ideal) f1) (arg2.view.read (Elt Ideal) f2) (arg3.view.read (Elt Ideal) f3) i) (outG (arg1.view.read (Elt Ideal) f1) (arg3.view.read (Elt Ideal) f3) i) 22 (kernelRun.sl.H4_134 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 21 (by decide) (by decide) (by decide) (by decide) (by decide) _ (stage_21 c i arg1 harg1 arg2 harg2 arg3 harg3 arg4 harg4 arg5 harg5 arg6 harg6 f1 f2 f3 f5)

theorem stage_23 : Stage (distG (arg1.view.read (Elt Ideal) f1) (arg2.view.read (Elt Ideal) f2) (arg3.view.read (Elt Ideal) f3) i) (outG (arg1.view.read (Elt Ideal) f1) (arg3.view.read (Elt Ideal) f3) i) 23 (kernelRun.sl.H4_135 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 22 (by decide) (by decide) (by decide) (by decide) (by decide) _ (stage_22 c i arg1 harg1 arg2 harg2 arg3 harg3 arg4 harg4 arg5 harg5 arg6 harg6 f1 f2 f3 f5)

theorem stage_24 : Stage (distG (arg1.view.read (Elt Ideal) f1) (arg2.view.read (Elt Ideal) f2) (arg3.view.read (Elt Ideal) f3) i) (outG (arg1.view.read (Elt Ideal) f1) (arg3.view.read (Elt Ideal) f3) i) 24 (kernelRun.sl.H4_136 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 23 (by decide) (by decide) (by decide) (by decide) (by decide) _ (stage_23 c i arg1 harg1 arg2 harg2 arg3 harg3 arg4 harg4 arg5 harg5 arg6 harg6 f1 f2 f3 f5)

theorem stage_25 : Stage (distG (arg1.view.read (Elt Ideal) f1) (arg2.view.read (Elt Ideal) f2) (arg3.view.read (Elt Ideal) f3) i) (outG (arg1.view.read (Elt Ideal) f1) (arg3.view.read (Elt Ideal) f3) i) 25 (kernelRun.sl.H4_137 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 24 (by decide) (by decide) (by decide) (by decide) (by decide) _ (stage_24 c i arg1 harg1 arg2 harg2 arg3 harg3 arg4 harg4 arg5 harg5 arg6 harg6 f1 f2 f3 f5)

theorem stage_26 : Stage (distG (arg1.view.read (Elt Ideal) f1) (arg2.view.read (Elt Ideal) f2) (arg3.view.read (Elt Ideal) f3) i) (outG (arg1.view.read (Elt Ideal) f1) (arg3.view.read (Elt Ideal) f3) i) 26 (kernelRun.sl.H4_138 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 25 (by decide) (by decide) (by decide) (by decide) (by decide) _ (stage_25 c i arg1 harg1 arg2 harg2 arg3 harg3 arg4 harg4 arg5 harg5 arg6 harg6 f1 f2 f3 f5)

theorem stage_27 : Stage (distG (arg1.view.read (Elt Ideal) f1) (arg2.view.read (Elt Ideal) f2) (arg3.view.read (Elt Ideal) f3) i) (outG (arg1.view.read (Elt Ideal) f1) (arg3.view.read (Elt Ideal) f3) i) 27 (kernelRun.sl.H4_139 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 26 (by decide) (by decide) (by decide) (by decide) (by decide) _ (stage_26 c i arg1 harg1 arg2 harg2 arg3 harg3 arg4 harg4 arg5 harg5 arg6 harg6 f1 f2 f3 f5)

theorem stage_28 : Stage (distG (arg1.view.read (Elt Ideal) f1) (arg2.view.read (Elt Ideal) f2) (arg3.view.read (Elt Ideal) f3) i) (outG (arg1.view.read (Elt Ideal) f1) (arg3.view.read (Elt Ideal) f3) i) 28 (kernelRun.sl.H4_140 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 27 (by decide) (by decide) (by decide) (by decide) (by decide) _ (stage_27 c i arg1 harg1 arg2 harg2 arg3 harg3 arg4 harg4 arg5 harg5 arg6 harg6 f1 f2 f3 f5)

theorem stage_29 : Stage (distG (arg1.view.read (Elt Ideal) f1) (arg2.view.read (Elt Ideal) f2) (arg3.view.read (Elt Ideal) f3) i) (outG (arg1.view.read (Elt Ideal) f1) (arg3.view.read (Elt Ideal) f3) i) 29 (kernelRun.sl.H4_141 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 28 (by decide) (by decide) (by decide) (by decide) (by decide) _ (stage_28 c i arg1 harg1 arg2 harg2 arg3 harg3 arg4 harg4 arg5 harg5 arg6 harg6 f1 f2 f3 f5)

theorem stage_30 : Stage (distG (arg1.view.read (Elt Ideal) f1) (arg2.view.read (Elt Ideal) f2) (arg3.view.read (Elt Ideal) f3) i) (outG (arg1.view.read (Elt Ideal) f1) (arg3.view.read (Elt Ideal) f3) i) 30 (kernelRun.sl.H4_142 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 29 (by decide) (by decide) (by decide) (by decide) (by decide) _ (stage_29 c i arg1 harg1 arg2 harg2 arg3 harg3 arg4 harg4 arg5 harg5 arg6 harg6 f1 f2 f3 f5)

theorem stage_31 : Stage (distG (arg1.view.read (Elt Ideal) f1) (arg2.view.read (Elt Ideal) f2) (arg3.view.read (Elt Ideal) f3) i) (outG (arg1.view.read (Elt Ideal) f1) (arg3.view.read (Elt Ideal) f3) i) 31 (kernelRun.sl.H4_143 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 30 (by decide) (by decide) (by decide) (by decide) (by decide) _ (stage_30 c i arg1 harg1 arg2 harg2 arg3 harg3 arg4 harg4 arg5 harg5 arg6 harg6 f1 f2 f3 f5)

theorem stage_32 : Stage (distG (arg1.view.read (Elt Ideal) f1) (arg2.view.read (Elt Ideal) f2) (arg3.view.read (Elt Ideal) f3) i) (outG (arg1.view.read (Elt Ideal) f1) (arg3.view.read (Elt Ideal) f3) i) 32 (kernelRun.sl.H4_144 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 31 (by decide) (by decide) (by decide) (by decide) (by decide) _ (stage_31 c i arg1 harg1 arg2 harg2 arg3 harg3 arg4 harg4 arg5 harg5 arg6 harg6 f1 f2 f3 f5)

theorem stage_33 : Stage (distG (arg1.view.read (Elt Ideal) f1) (arg2.view.read (Elt Ideal) f2) (arg3.view.read (Elt Ideal) f3) i) (outG (arg1.view.read (Elt Ideal) f1) (arg3.view.read (Elt Ideal) f3) i) 33 (kernelRun.sl.H4_145 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 32 (by decide) (by decide) (by decide) (by decide) (by decide) _ (stage_32 c i arg1 harg1 arg2 harg2 arg3 harg3 arg4 harg4 arg5 harg5 arg6 harg6 f1 f2 f3 f5)

theorem stage_34 : Stage (distG (arg1.view.read (Elt Ideal) f1) (arg2.view.read (Elt Ideal) f2) (arg3.view.read (Elt Ideal) f3) i) (outG (arg1.view.read (Elt Ideal) f1) (arg3.view.read (Elt Ideal) f3) i) 34 (kernelRun.sl.H4_146 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 33 (by decide) (by decide) (by decide) (by decide) (by decide) _ (stage_33 c i arg1 harg1 arg2 harg2 arg3 harg3 arg4 harg4 arg5 harg5 arg6 harg6 f1 f2 f3 f5)

theorem stage_35 : Stage (distG (arg1.view.read (Elt Ideal) f1) (arg2.view.read (Elt Ideal) f2) (arg3.view.read (Elt Ideal) f3) i) (outG (arg1.view.read (Elt Ideal) f1) (arg3.view.read (Elt Ideal) f3) i) 35 (kernelRun.sl.H4_147 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 34 (by decide) (by decide) (by decide) (by decide) (by decide) _ (stage_34 c i arg1 harg1 arg2 harg2 arg3 harg3 arg4 harg4 arg5 harg5 arg6 harg6 f1 f2 f3 f5)

theorem stage_36 : Stage (distG (arg1.view.read (Elt Ideal) f1) (arg2.view.read (Elt Ideal) f2) (arg3.view.read (Elt Ideal) f3) i) (outG (arg1.view.read (Elt Ideal) f1) (arg3.view.read (Elt Ideal) f3) i) 36 (kernelRun.sl.H4_148 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 35 (by decide) (by decide) (by decide) (by decide) (by decide) _ (stage_35 c i arg1 harg1 arg2 harg2 arg3 harg3 arg4 harg4 arg5 harg5 arg6 harg6 f1 f2 f3 f5)

theorem stage_37 : Stage (distG (arg1.view.read (Elt Ideal) f1) (arg2.view.read (Elt Ideal) f2) (arg3.view.read (Elt Ideal) f3) i) (outG (arg1.view.read (Elt Ideal) f1) (arg3.view.read (Elt Ideal) f3) i) 37 (kernelRun.sl.H4_149 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 36 (by decide) (by decide) (by decide) (by decide) (by decide) _ (stage_36 c i arg1 harg1 arg2 harg2 arg3 harg3 arg4 harg4 arg5 harg5 arg6 harg6 f1 f2 f3 f5)

theorem stage_38 : Stage (distG (arg1.view.read (Elt Ideal) f1) (arg2.view.read (Elt Ideal) f2) (arg3.view.read (Elt Ideal) f3) i) (outG (arg1.view.read (Elt Ideal) f1) (arg3.view.read (Elt Ideal) f3) i) 38 (kernelRun.sl.H4_150 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 37 (by decide) (by decide) (by decide) (by decide) (by decide) _ (stage_37 c i arg1 harg1 arg2 harg2 arg3 harg3 arg4 harg4 arg5 harg5 arg6 harg6 f1 f2 f3 f5)

theorem stage_39 : Stage (distG (arg1.view.read (Elt Ideal) f1) (arg2.view.read (Elt Ideal) f2) (arg3.view.read (Elt Ideal) f3) i) (outG (arg1.view.read (Elt Ideal) f1) (arg3.view.read (Elt Ideal) f3) i) 39 (kernelRun.sl.H4_151 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 38 (by decide) (by decide) (by decide) (by decide) (by decide) _ (stage_38 c i arg1 harg1 arg2 harg2 arg3 harg3 arg4 harg4 arg5 harg5 arg6 harg6 f1 f2 f3 f5)

theorem stage_40 : Stage (distG (arg1.view.read (Elt Ideal) f1) (arg2.view.read (Elt Ideal) f2) (arg3.view.read (Elt Ideal) f3) i) (outG (arg1.view.read (Elt Ideal) f1) (arg3.view.read (Elt Ideal) f3) i) 40 (kernelRun.sl.H4_152 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 39 (by decide) (by decide) (by decide) (by decide) (by decide) _ (stage_39 c i arg1 harg1 arg2 harg2 arg3 harg3 arg4 harg4 arg5 harg5 arg6 harg6 f1 f2 f3 f5)

theorem stage_41 : Stage (distG (arg1.view.read (Elt Ideal) f1) (arg2.view.read (Elt Ideal) f2) (arg3.view.read (Elt Ideal) f3) i) (outG (arg1.view.read (Elt Ideal) f1) (arg3.view.read (Elt Ideal) f3) i) 41 (kernelRun.sl.H4_153 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 40 (by decide) (by decide) (by decide) (by decide) (by decide) _ (stage_40 c i arg1 harg1 arg2 harg2 arg3 harg3 arg4 harg4 arg5 harg5 arg6 harg6 f1 f2 f3 f5)

theorem stage_42 : Stage (distG (arg1.view.read (Elt Ideal) f1) (arg2.view.read (Elt Ideal) f2) (arg3.view.read (Elt Ideal) f3) i) (outG (arg1.view.read (Elt Ideal) f1) (arg3.view.read (Elt Ideal) f3) i) 42 (kernelRun.sl.H4_154 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 41 (by decide) (by decide) (by decide) (by decide) (by decide) _ (stage_41 c i arg1 harg1 arg2 harg2 arg3 harg3 arg4 harg4 arg5 harg5 arg6 harg6 f1 f2 f3 f5)

theorem stage_43 : Stage (distG (arg1.view.read (Elt Ideal) f1) (arg2.view.read (Elt Ideal) f2) (arg3.view.read (Elt Ideal) f3) i) (outG (arg1.view.read (Elt Ideal) f1) (arg3.view.read (Elt Ideal) f3) i) 43 (kernelRun.sl.H4_155 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 42 (by decide) (by decide) (by decide) (by decide) (by decide) _ (stage_42 c i arg1 harg1 arg2 harg2 arg3 harg3 arg4 harg4 arg5 harg5 arg6 harg6 f1 f2 f3 f5)

theorem stage_44 : Stage (distG (arg1.view.read (Elt Ideal) f1) (arg2.view.read (Elt Ideal) f2) (arg3.view.read (Elt Ideal) f3) i) (outG (arg1.view.read (Elt Ideal) f1) (arg3.view.read (Elt Ideal) f3) i) 44 (kernelRun.sl.H4_156 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 43 (by decide) (by decide) (by decide) (by decide) (by decide) _ (stage_43 c i arg1 harg1 arg2 harg2 arg3 harg3 arg4 harg4 arg5 harg5 arg6 harg6 f1 f2 f3 f5)

theorem stage_45 : Stage (distG (arg1.view.read (Elt Ideal) f1) (arg2.view.read (Elt Ideal) f2) (arg3.view.read (Elt Ideal) f3) i) (outG (arg1.view.read (Elt Ideal) f1) (arg3.view.read (Elt Ideal) f3) i) 45 (kernelRun.sl.H4_157 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 44 (by decide) (by decide) (by decide) (by decide) (by decide) _ (stage_44 c i arg1 harg1 arg2 harg2 arg3 harg3 arg4 harg4 arg5 harg5 arg6 harg6 f1 f2 f3 f5)

theorem stage_46 : Stage (distG (arg1.view.read (Elt Ideal) f1) (arg2.view.read (Elt Ideal) f2) (arg3.view.read (Elt Ideal) f3) i) (outG (arg1.view.read (Elt Ideal) f1) (arg3.view.read (Elt Ideal) f3) i) 46 (kernelRun.sl.H4_158 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 45 (by decide) (by decide) (by decide) (by decide) (by decide) _ (stage_45 c i arg1 harg1 arg2 harg2 arg3 harg3 arg4 harg4 arg5 harg5 arg6 harg6 f1 f2 f3 f5)

theorem stage_47 : Stage (distG (arg1.view.read (Elt Ideal) f1) (arg2.view.read (Elt Ideal) f2) (arg3.view.read (Elt Ideal) f3) i) (outG (arg1.view.read (Elt Ideal) f1) (arg3.view.read (Elt Ideal) f3) i) 47 (kernelRun.sl.H4_159 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 46 (by decide) (by decide) (by decide) (by decide) (by decide) _ (stage_46 c i arg1 harg1 arg2 harg2 arg3 harg3 arg4 harg4 arg5 harg5 arg6 harg6 f1 f2 f3 f5)

theorem stage_48 : Stage (distG (arg1.view.read (Elt Ideal) f1) (arg2.view.read (Elt Ideal) f2) (arg3.view.read (Elt Ideal) f3) i) (outG (arg1.view.read (Elt Ideal) f1) (arg3.view.read (Elt Ideal) f3) i) 48 (kernelRun.sl.H4_160 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 47 (by decide) (by decide) (by decide) (by decide) (by decide) _ (stage_47 c i arg1 harg1 arg2 harg2 arg3 harg3 arg4 harg4 arg5 harg5 arg6 harg6 f1 f2 f3 f5)

theorem stage_49 : Stage (distG (arg1.view.read (Elt Ideal) f1) (arg2.view.read (Elt Ideal) f2) (arg3.view.read (Elt Ideal) f3) i) (outG (arg1.view.read (Elt Ideal) f1) (arg3.view.read (Elt Ideal) f3) i) 49 (kernelRun.sl.H4_161 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 48 (by decide) (by decide) (by decide) (by decide) (by decide) _ (stage_48 c i arg1 harg1 arg2 harg2 arg3 harg3 arg4 harg4 arg5 harg5 arg6 harg6 f1 f2 f3 f5)

theorem stage_50 : Stage (distG (arg1.view.read (Elt Ideal) f1) (arg2.view.read (Elt Ideal) f2) (arg3.view.read (Elt Ideal) f3) i) (outG (arg1.view.read (Elt Ideal) f1) (arg3.view.read (Elt Ideal) f3) i) 50 (kernelRun.sl.H4_162 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 49 (by decide) (by decide) (by decide) (by decide) (by decide) _ (stage_49 c i arg1 harg1 arg2 harg2 arg3 harg3 arg4 harg4 arg5 harg5 arg6 harg6 f1 f2 f3 f5)

theorem stage_51 : Stage (distG (arg1.view.read (Elt Ideal) f1) (arg2.view.read (Elt Ideal) f2) (arg3.view.read (Elt Ideal) f3) i) (outG (arg1.view.read (Elt Ideal) f1) (arg3.view.read (Elt Ideal) f3) i) 51 (kernelRun.sl.H4_163 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 50 (by decide) (by decide) (by decide) (by decide) (by decide) _ (stage_50 c i arg1 harg1 arg2 harg2 arg3 harg3 arg4 harg4 arg5 harg5 arg6 harg6 f1 f2 f3 f5)

theorem stage_52 : Stage (distG (arg1.view.read (Elt Ideal) f1) (arg2.view.read (Elt Ideal) f2) (arg3.view.read (Elt Ideal) f3) i) (outG (arg1.view.read (Elt Ideal) f1) (arg3.view.read (Elt Ideal) f3) i) 52 (kernelRun.sl.H4_164 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 51 (by decide) (by decide) (by decide) (by decide) (by decide) _ (stage_51 c i arg1 harg1 arg2 harg2 arg3 harg3 arg4 harg4 arg5 harg5 arg6 harg6 f1 f2 f3 f5)

theorem stage_53 : Stage (distG (arg1.view.read (Elt Ideal) f1) (arg2.view.read (Elt Ideal) f2) (arg3.view.read (Elt Ideal) f3) i) (outG (arg1.view.read (Elt Ideal) f1) (arg3.view.read (Elt Ideal) f3) i) 53 (kernelRun.sl.H4_165 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 52 (by decide) (by decide) (by decide) (by decide) (by decide) _ (stage_52 c i arg1 harg1 arg2 harg2 arg3 harg3 arg4 harg4 arg5 harg5 arg6 harg6 f1 f2 f3 f5)

theorem stage_54 : Stage (distG (arg1.view.read (Elt Ideal) f1) (arg2.view.read (Elt Ideal) f2) (arg3.view.read (Elt Ideal) f3) i) (outG (arg1.view.read (Elt Ideal) f1) (arg3.view.read (Elt Ideal) f3) i) 54 (kernelRun.sl.H4_166 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 53 (by decide) (by decide) (by decide) (by decide) (by decide) _ (stage_53 c i arg1 harg1 arg2 harg2 arg3 harg3 arg4 harg4 arg5 harg5 arg6 harg6 f1 f2 f3 f5)

theorem stage_55 : Stage (distG (arg1.view.read (Elt Ideal) f1) (arg2.view.read (Elt Ideal) f2) (arg3.view.read (Elt Ideal) f3) i) (outG (arg1.view.read (Elt Ideal) f1) (arg3.view.read (Elt Ideal) f3) i) 55 (kernelRun.sl.H4_167 (F := Ideal) c i arg1 harg1 arg2 harg2 arg3 harg3 arg4 harg4 arg5 harg5 arg6 harg6 f1 f2 f3 f5) :=
  dist_step i arg2.view arg4.view arg6.view f2 _ _ _ (rows_H6_112 c i arg1 harg1 arg2 harg2 arg3 harg3 arg4 harg4 arg5 harg5 arg6 harg6 f1 f3 f5) 54 (by decide) (by decide) (by decide) (by decide) (by decide) _ (stage_54 c i arg1 harg1 arg2 harg2 arg3 harg3 arg4 harg4 arg5 harg5 arg6 harg6 f1 f2 f3 f5)

theorem stage_56 : Stage (distG (arg1.view.read (Elt Ideal) f1) (arg2.view.read (Elt Ideal) f2) (arg3.view.read (Elt Ideal) f3) i) (outG (arg1.view.read (Elt Ideal) f1) (arg3.view.read (Elt Ideal) f3) i) 56 (kernelRun (F := Ideal) c i arg1 harg1 arg2 harg2 arg3 harg3 arg4 harg4 arg5 harg5 arg6 harg6 f1 f2 f3 f5).1 :=
  dist_step i arg2.view arg4.view arg6.view f2 _ _ _ (rows_H6_112 c i arg1 harg1 arg2 harg2 arg3 harg3 arg4 harg4 arg5 harg5 arg6 harg6 f1 f3 f5) 55 (by decide) (by decide) (by decide) (by decide) (by decide) _ (stage_55 c i arg1 harg1 arg2 harg2 arg3 harg3 arg4 harg4 arg5 harg5 arg6 harg6 f1 f2 f3 f5)

/-- One grid point's stores leave the distances of its 256 nodes. -/
theorem body_value (f4 : BufTy.Contents (Elt Ideal) arg4.view.ty) :
    arg4.view.read (Elt Ideal) (arg4.view.writes (Elt Ideal) f4 (kernelRun (F := Ideal) c i arg1 harg1 arg2 harg2 arg3 harg3 arg4 harg4 arg5 harg5 arg6 harg6 f1 f2 f3 f5).1) = distG (arg1.view.read (Elt Ideal) f1) (arg2.view.read (Elt Ideal) f2) (arg3.view.read (Elt Ideal) f3) i := by
  have h := stage_56 c i arg1 harg1 arg2 harg2 arg3 harg3 arg4 harg4 arg5 harg5 arg6 harg6 f1 f2 f3 f5
  refine (View.read_writes_eq_canon arg4.view f4 _ h.cover).trans (funext fun y => h.done y (y 0).isLt)

end Cert.KernelIdeal.Hand
-- ==== Proof.Array.lean ====
module

public import proofs.«01_k».proof.Proof.BodyI
public import proofs.«01_k».proof.Proof.Phase2
public import Idealize.ShloMosaic.Lib.Pipeline.ValueKit.Geometry
public import Idealize.ShloMosaic.Lib.Pipeline.ValueKit.Point
public import Idealize.ShloMosaic.Lib.KernelVsHost

@[expose] public section

noncomputable section

namespace Cert.KernelIdeal.Hand

open Cert.KernelIdeal Cert.KernelIdeal.Gen

open Idealize.ShloMosaic
open Idealize.ShloMosaic.TcCoe

variable (m : (ℓ : Loc nD τ sig) → Buf (Elt Ideal) ℓ) (c : Dev nD)

/-- The padded counts at a node. -/
theorem counts_at (n : Fin 2048) (hn : n.val < 2000) :
    (V m c main_v0 : S2048.Idx → BitVec 32) (ix1 n) = (m ((c : Thread nD τ).loc main_arg1) : S2000.Idx → BitVec 32) (ix1 ⟨n.val, hn⟩) := by
  unfold V
  simp only [hostOps0, hostOps0_1, hostOps0_2, List.flatten_cons, List.flatten_nil, List.append_nil, List.cons_append, List.nil_append, StableHlo.after_cons, StableHlo.after_nil]
  try after_results_simp
  after_results_loop
  refine pad_apply_of_inside (s := S2000) (t := S2048) ![0] ![48] ![0] (m ((c : Thread nD τ).loc main_arg1) : S2000.Idx → BitVec 32) _ pads_S2000_S2048_0480 h_S_ (ix1 n) (ix1 ⟨n.val, hn⟩) ?_
  intro a
  fin_cases a
  show n.val = 0 + n.val * (0 + 1)
  omega

/-- The padded counts as one row. -/
theorem counts_row (n : Fin 2048) :
    (V m c main_v1 : S1x2048.Idx → BitVec 32) (ix2 0 n) = (V m c main_v0 : S2048.Idx → BitVec 32) (ix1 n) := by
  unfold V
  simp only [hostOps0, hostOps0_1, hostOps0_2, List.flatten_cons, List.flatten_nil, List.append_nil, List.cons_append, List.nil_append, StableHlo.after_cons, StableHlo.after_nil]
  try after_results_simp
  after_results_loop
  generalize StableHlo.TRef.toBuf _ _ = X
  change shapeCast S1x2048 (X : S2048.Idx → BitVec 32) shapeCasts_S2048_S1x2048 (ix2 0 n) = X (ix1 n)
  pointwise

theorem idx3 : ∀ t : Fin cfg0.N, win0_3.index t = ![0, 0, (grid0.coords t 0).val] := (by decide +kernel : ∀ t : Fin grid0.N, _)
theorem idx2 : ∀ t : Fin cfg0.N, win0_2.index t = ![(grid0.coords t 0).val, 0] := (by decide +kernel : ∀ t : Fin grid0.N, _)
theorem idx1 : ∀ t : Fin cfg0.N, win0_1.index t = ![0, (grid0.coords t 0).val] := (by decide +kernel : ∀ t : Fin grid0.N, _)
theorem idx0 : ∀ t : Fin cfg0.N, win0_0.index t = ![0] := (by decide +kernel : ∀ t : Fin grid0.N, _)
theorem size2 : ∀ t : Fin cfg0.N, win0_2.xsize (grid0.coords t) = ![28 * min 256 (2000 - 256 * (grid0.coords t 0).val), 128] := (by decide +kernel : ∀ t : Fin grid0.N, _)
theorem size3 : ∀ t : Fin cfg0.N, win0_3.xsize (grid0.coords t) = ![56, 56, min 256 (2000 - 256 * (grid0.coords t 0).val)] := (by decide +kernel : ∀ t : Fin grid0.N, _)

theorem iblk0_at (t : Fin cfg0.N) (x : S2048.Idx) : (iblk m c 0 t : S2048.Idx → BitVec 32) x = (V m c main_v0 : S2048.Idx → BitVec 32) x := by
  have e := idx0 t
  blk_simp [iblk]
  blk_ext [e]

theorem iblk1_at (t : Fin cfg0.N) (n : Fin 256) : (iblk m c 1 t : S1x256.Idx → BitVec 32) (ix2 0 n)
    = (V m c main_v1 : S1x2048.Idx → BitVec 32) (ix2 0 ⟨256 * (grid0.coords t 0).val + n.val, by have h : (grid0.coords t 0).val < 8 := (grid0.coords t 0).isLt; omega⟩) := by
  have e := idx1 t
  blk_simp [iblk]
  blk_ext [e]

theorem iblk2_at (t : Fin cfg0.N) (y : (win0_2.xblock (grid0.coords t)).Idx) (r : Fin 56000) (l : Fin 128) (hr : r.val = 7168 * (grid0.coords t 0).val + (y 0).val) (hl : l.val = (y 1).val) :
    (iblk m c 2 t : _ → BitVec 32) y = (m ((c : Thread nD τ).loc main_arg0) : S56000x128.Idx → BitVec 32) (ix2 r l) := by
  have e := idx2 t
  rw [← V_main_arg0 m c]
  blk_simp [iblk]
  blk_ext [e]

/-- The rows of a node in the whole array of rows. -/
def fullRows (R : S56000x128.Idx → BitVec 32) (n : Fin 2000) : S28x128.Idx → BitVec 32 :=
  fun x => R (ix2 ⟨28 * n.val + (x 0).val, by have h : (x 0).val < 28 := (x 0).isLt; omega⟩ (x 1))

/-- The distances of every node, from the rows and the counts. -/
def arrG (R : S56000x128.Idx → BitVec 32) (C : S2000.Idx → BitVec 32) : S56x56x2000.Idx → EReal :=
  fun y => distAt (loadA (fullRows R (y 2)) (C (ix1 (y 2)))) (C (ix1 (y 2))) (y 0) (y 1)

/-- The rows of a node that lies inside the array, from a block of rows filled out past the array's end by anything. -/
theorem nodeRows_fill (t : Fin cfg0.N) (d : S7168x128.Idx → BitVec 32) (n : Fin 256) (N : Fin 2000) (hN : N.val = 256 * (grid0.coords t 0).val + n.val) :
    nodeRows (win0_2.fill (grid0.coords t) d (iblk m c 2 t)) n = fullRows (m ((c : Thread nD τ).loc main_arg0)) N := by
  funext x
  have h0 : (x 0).val < 28 := (x 0).isLt
  have h1 : (x 1).val < 128 := (x 1).isLt
  have hn := n.isLt
  have hN' := N.isLt
  have hm : ∀ a, ((ix2 ⟨28 * n.val + (x 0).val, by omega⟩ (x 1) : S7168x128.Idx) a).val < win0_2.xsize (grid0.coords t) a := by
    rw [size2 t]
    intro a
    fin_cases a
    · show 28 * n.val + (x 0).val < 28 * min 256 (2000 - 256 * (grid0.coords t 0).val)
      omega
    · exact h1
  show win0_2.fill (grid0.coords t) d (iblk m c 2 t) (ix2 ⟨28 * n.val + (x 0).val, by omega⟩ (x 1)) = _
  unfold Pipeline.Window.fill
  rw [dif_pos ((win0_2.moved_iff (grid0.coords t) _).mpr hm)]
  refine iblk2_at m c t _ _ _ ?_ rfl
  show 28 * N.val + (x 0).val = 7168 * (grid0.coords t 0).val + (28 * n.val + (x 0).val)
  omega

/-- The distances of a node that lies inside the arrays, from the blocks of a grid point. -/
theorem block_dist (t : Fin cfg0.N) (d : S7168x128.Idx → BitVec 32) (n : Fin 256) (N : Fin 2000) (hN : N.val = 256 * (grid0.coords t 0).val + n.val) (a b : Fin 56) :
    distG (iblk m c 0 t) (iblk m c 1 t) (win0_2.fill (grid0.coords t) d (iblk m c 2 t)) (grid0.coords t) (ix3 a b n)
      = arrG (m ((c : Thread nD τ).loc main_arg0)) (m ((c : Thread nD τ).loc main_arg1)) (ix3 a b N) := by
  have hN' := N.isLt
  have h8 : (grid0.coords t 0).val < 8 := (grid0.coords t 0).isLt
  have hn := n.isLt
  have e0 : nodeCnt (iblk m c 0 t) (grid0.coords t) n = (m ((c : Thread nD τ).loc main_arg1) : S2000.Idx → BitVec 32) (ix1 N) := by
    unfold nodeCnt
    rw [iblk0_at, counts_at m c _ (by show 256 * (grid0.coords t 0).val + n.val < 2000; omega)]
    exact congrArg _ (congrArg ix1 (Fin.ext hN.symm))
  have e1 : (iblk m c 1 t : S1x256.Idx → BitVec 32) (ix2 0 n) = (m ((c : Thread nD τ).loc main_arg1) : S2000.Idx → BitVec 32) (ix1 N) := by
    rw [iblk1_at, counts_row, counts_at m c _ (by show 256 * (grid0.coords t 0).val + n.val < 2000; omega)]
    exact congrArg _ (congrArg ix1 (Fin.ext hN.symm))
  show distAt (loadA (nodeRows _ n) (nodeCnt (iblk m c 0 t) (grid0.coords t) n)) ((iblk m c 1 t : S1x256.Idx → BitVec 32) (ix2 0 n)) a b = _
  rw [e0, e1, nodeRows_fill m c t d n N hN]
  rfl

/-- The part of a block's distances that is written back, wherever the block of rows is filled out by anything. -/
theorem block_cut (t : Fin cfg0.N) (d : S7168x128.Idx → BitVec 32) (y : (win0_3.xblock (grid0.coords t)).Idx) :
    win0_3.cut (grid0.coords t) (distG (iblk m c 0 t) (iblk m c 1 t) (win0_2.fill (grid0.coords t) d (iblk m c 2 t)) (grid0.coords t)) y
      = arrG (m ((c : Thread nD τ).loc main_arg0)) (m ((c : Thread nD τ).loc main_arg1)) ((win0_3.blk t).view.emb y) := by
  have e := idx3 t
  have h0 : (y 0).val < win0_3.xsize (grid0.coords t) 0 := (y 0).isLt
  have h1 : (y 1).val < win0_3.xsize (grid0.coords t) 1 := (y 1).isLt
  have h2 : (y 2).val < win0_3.xsize (grid0.coords t) 2 := (y 2).isLt
  rw [size3 t] at h0 h1 h2
  replace h0 : (y 0).val < 56 := h0
  replace h1 : (y 1).val < 56 := h1
  replace h2 : (y 2).val < min 256 (2000 - 256 * (grid0.coords t 0).val) := h2
  have ex : (win0_3.xinj (grid0.coords t) y : S56x56x256.Idx) = ix3 ⟨(y 0).val, h0⟩ ⟨(y 1).val, h1⟩ ⟨(y 2).val, by omega⟩ := by
    funext a
    fin_cases a <;> rfl
  have ee : ((win0_3.blk t).view.emb y : S56x56x2000.Idx) = ix3 ⟨(y 0).val, h0⟩ ⟨(y 1).val, h1⟩ ⟨256 * (grid0.coords t 0).val + (y 2).val, by omega⟩ := by
    blk_ext [e]
  rw [ee]
  refine Eq.trans ?_ (block_dist m c t d ⟨(y 2).val, by omega⟩ ⟨256 * (grid0.coords t 0).val + (y 2).val, by omega⟩ rfl ⟨(y 0).val, h0⟩ ⟨(y 1).val, h1⟩)
  exact congrArg (distG (iblk m c 0 t) (iblk m c 1 t) (win0_2.fill (grid0.coords t) d (iblk m c 2 t)) (grid0.coords t)) ex

end Cert.KernelIdeal.Hand
-- ==== Proof.ArrayRun.lean ====
module

public import proofs.«01_k».proof.Proof.Array

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

local notation "𝕄" => MT nD τ sig Unit (Elt Ideal) ℕ (UR sig nD τ) ℕ

variable (m : (ℓ : Loc nD τ sig) → Buf (Elt Ideal) ℓ)

/-- The distances of the nodes of grid point `t`, the block of rows filled out with the zero word. -/
def blockG (c : Dev nD) (t : Fin cfg0.N) : S56x56x256.Idx → EReal :=
  distG (iblk m c 0 t) (iblk m c 1 t) (rowsBlk m c t) (grid0.coords t)

/-- The body's obligation with the result's window at the distances. -/
theorem body_value_obligation (c : Dev nD) : BodyObligationLoose (dats m (blockG m) 0 c) (defs₀ (F := Ideal)) Variants.none () Set.univ (fun _ => false) := fun t => by
  rw [bigSep_W0, bigSep_W0]
  simp only [Bool.false_eq_true, if_false]
  rw [show (dats m (blockG m) 0 c).Φ t.castSucc = Pipeline.ΦA spec0 c from rfl, show (dats m (blockG m) 0 c).Φ t.succ = Pipeline.ΦA spec0 c from rfl,
    show (dats m (blockG m) 0 c).owesAt () t.succ = (dats m (blockG m) 0 c).owesAt () t.castSucc from rfl, scoped_in]
  iintro ⟨⟨⟨H5, H6⟩, Hg⟩, Ho, ⟨%d0, H0⟩, ⟨%d1, H1⟩, ⟨%d2, H2⟩, ⟨%d3, H3⟩⟩
  rw [before0 m (blockG m) c t d0, before1 m (blockG m) c t d1, before2 m (blockG m) c t d2]
  iapply (body_owns (F := Ideal) c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (Memref.whole cc0_scratch0) (Memref.isWhole_whole _) (Memref.whole cc0_scratch1) (Memref.isWhole_whole _)
    (iblk m c 0 t) (iblk m c 1 t) (win0_2.fill (grid0.coords t) d2 (iblk m c 2 t)) (fun X => win0_3.cut (grid0.coords t) X = win0_3.cut (grid0.coords t) (blockG m c t))
    (fun f1 f2 f3 f4 f5 e1 e2 e3 => by
      rw [body_value, e1, e2, e3]
      funext y
      exact (block_cut m c t d2 y).trans (block_cut m c t _ y).symm) Set.univ _)
  isplitl [H0]; · iexact H0
  isplitl [H1]; · iexact H1
  isplitl [H2]; · iexact H2
  isplitl [H3]; · iexists _; iexact H3
  isplitl [H5]; · iexact H5
  isplitl [H6]; · iexact H6
  iintro ⟨H0, H1, H2, ⟨%X, %hX, H3⟩, H5, H6⟩
  isplitl [H5 H6 Hg]
  · isplitr [Hg]
    · isplitl [H5]; · iexact H5
      iexact H6
    · iexact Hg
  isplitl [Ho]; · iexact Ho
  isplitl [H0]; · iexact H0
  isplitl [H1]; · iexact H1
  isplitl [H2]
  · iexists d2
    change _ ⊢ owns (c : Thread nD τ) (win0_2.stage (cfg0.slots t 2)) fullShare (win0_2.fill (grid0.coords t) d2 (win0_2.cut (grid0.coords t) (rowsBlk m c t)))
    rw [show win0_2.cut (grid0.coords t) (rowsBlk m c t) = iblk m c 2 t from win0_2.cut_fill _ _ _]
    try iexact H2
  · iexists X
    change _ ⊢ owns (c : Thread nD τ) (win0_3.stage (cfg0.slots t 3)) fullShare (win0_3.fill (grid0.coords t) X (win0_3.cut (grid0.coords t) (blockG m c t)))
    rw [← hX, win0_3.fill_cut]
    try iexact H3

/-- The result array at the end: the distances of every node. -/
theorem array_value (c : Dev nD) :
    (dats m (blockG m) 0 c).arrAt (3 : Fin 4) cfg0.N = arrG (m ((c : Thread nD τ).loc main_arg0)) (m ((c : Thread nD τ).loc main_arg1)) :=
  (dats m (blockG m) 0 c).arrAt_eq_of_covers (3 : Fin 4)
    (arrG (m ((c : Thread nD τ).loc main_arg0)) (m ((c : Thread nD τ).loc main_arg1)))
    (hcov := by decide +kernel) (hG := fun t _ y => block_cut m c t (fun _ => (0#32 : BitVec 32)) y)

variable (ρ : Dev nD → PrngReg)

/-- From any memory with zero counters: @main terminates without a fault, the result array ends at the distances
    of every node, both argument arrays end unchanged. -/
theorem value_run : θ_run defs (onTc (τ := τ) (main (F := Ideal))) ⟨m, fun _ => 0, ρ⟩ (fun r => ∀ c : Dev nD,
      r.2.mem ((c.tc : Thread nD τ).loc main_v2) = arrG (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_frame cfgs (dats m (blockG m)) 0 launch0 defs₀ Variants.none m ρ main
    (hbody := body_value_obligation m)
    (hshare := fun c => (dats m _ 0 c).share_full fun _ => rfl) (howed := fun _ _ => rfl)
    (V := V m) (hmain := hmain m Variants.none) (hA := fun _ _ => rfl) (hΦ := fun _ _ => rfl)
    (Q' := fun r => ∀ c : Dev nD,
      r.2.mem ((c.tc : Thread nD τ).loc main_v2) = arrG (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
    (hQ' := fun _ h c => ⟨((h.1 c).1 3).trans (array_value m c), ((h.1 c).1 2).trans (((dats m (blockG m) 0 c).arrAt_in 2 rfl _).trans (V_main_arg0 m c)),
      ((h.1 c).2 main_arg1 (Pipeline.mem_restRefs_of main_arg1 (by decide) (by decide))).trans (V_main_arg1 m c)⟩)

end Cert.KernelIdeal.Hand

end
-- ==== Proof.Ref.lean ====
module

public import proofs.«01_k».proof.Proof.ArrayRun
public import proofs.«01_k».proof.Proof.Gen.ReferenceIdeal.Read
public import Idealize.ShloMosaic.Lib.BitcastConvert

@[expose] public section

noncomputable section

namespace Cert.ReferenceIdeal.Hand

open Cert.ReferenceIdeal Cert.ReferenceIdeal.Read
open Idealize.ShloMosaic
open Cert.KernelIdeal.Hand (wordAt byteAt scaleAt vecAt loadA loadA_apply dotAt distAt fullRows arrG)
open scoped BigOperators

variable (x0 : (⟨2, ![56000, 128]⟩ : Shape).Idx → BitVec 32) (x1 : (⟨1, ![2000]⟩ : Shape).Idx → BitVec 32)

/-- The word of node `n`, slot `s`, place `q`, in the reference. -/
theorem word_at (n : Fin 2000) (s : Fin 56) (q : Fin 64) :
    val_main_v2 (F := Ideal) x0 (ix3 n s q) = wordAt (fullRows x0 n) s.val q.val s.isLt q.isLt := by
  rw [val_main_v2_apply, val_main_v1_apply, val_main_v0_apply]
  have hn := n.isLt
  have hs := s.isLt
  have hq := q.isLt
  have e64 : ((n.val * 56 + s.val) * 64 + q.val) / 64 = n.val * 56 + s.val := by omega
  have e0 : ((n.val * 56 + s.val) * 64 + q.val) / 3584 = n.val := by omega
  have e1 : ((n.val * 56 + s.val) * 64 + q.val) / 64 % 28 = s.val % 28 := by rw [e64]; omega
  have e1792 : ((n.val * 56 + s.val) * 64 + q.val) / 1792 = 2 * n.val + s.val / 28 := by omega
  have e2 : ((n.val * 56 + s.val) * 64 + q.val) / 1792 % 2 = s.val / 28 := by rw [e1792]; omega
  have e3 : ((n.val * 56 + s.val) * 64 + q.val) % 64 = q.val := by omega
  unfold wordAt fullRows
  refine congrArg x0 (funext fun a => Fin.ext ?_)
  match a with
  | ⟨0, _⟩ =>
    show (((((n.val * 56 + s.val) * 64 + q.val) / 3584 * 28 + ((n.val * 56 + s.val) * 64 + q.val) / 64 % 28) * 2 + ((n.val * 56 + s.val) * 64 + q.val) / 1792 % 2) * 64 + ((n.val * 56 + s.val) * 64 + q.val) % 64) / 128 = 28 * n.val + s.val % 28
    rw [e0, e1, e2, e3]
    omega
  | ⟨1, _⟩ =>
    show (((((n.val * 56 + s.val) * 64 + q.val) / 3584 * 28 + ((n.val * 56 + s.val) * 64 + q.val) / 64 % 28) * 2 + ((n.val * 56 + s.val) * 64 + q.val) / 1792 % 2) * 64 + ((n.val * 56 + s.val) * 64 + q.val) % 64) % 128 = 64 * (s.val / 28) + q.val
    rw [e0, e1, e2, e3]
    omega

/-- One byte of a word, by its bits and by the kernel's shifts. -/
theorem byte_shift (w : BitVec 32) (b : Fin 4) :
    (w.extractLsb' (b.val * 8) 8).signExtend 32
      = IntOp.shrsi .vector (IntOp.shli .vector w (BitVec.ofNat 32 (24 - 8 * b.val))) 24#32 := by
  fin_cases b <;>
  · simp [IntOp.shrsi, IntOp.shli]
    refine BitVec.eq_of_getLsbD_eq fun i hi => ?_
    rw [BitVec.getLsbD_signExtend, BitVec.getLsbD_sshiftRight]
    interval_cases i <;> simp [BitVec.msb_eq_getLsbD_last]

/-- Code `d` of node `n`, slot `s`, as an integer. -/
theorem code_at (n : Fin 2000) (s : Fin 56) (d : Fin 192) :
    val_main_v8 (F := Ideal) x0 (ix3 n s d)
      = IntOp.shrsi .vector (IntOp.shli .vector (wordAt (fullRows x0 n) s.val (d.val / 4) s.isLt (by omega)) (BitVec.ofNat 32 (24 - 8 * (d.val % 4)))) 24#32 := by
  have hn := n.isLt
  have hs := s.isLt
  have hd := d.isLt
  have e : (idx_main_v5 (ix3 n s d) : S2000x56x48x4.Idx) = ix4 n s ⟨d.val / 4, by omega⟩ ⟨d.val % 4, by omega⟩ := funext fun a => Fin.ext (by
    match a with
    | ⟨0, _⟩ => show ((n.val * 56 + s.val) * 192 + d.val) / 10752 = n.val; omega
    | ⟨1, _⟩ => show ((n.val * 56 + s.val) * 192 + d.val) / 192 % 56 = s.val; omega
    | ⟨2, _⟩ => show ((n.val * 56 + s.val) * 192 + d.val) / 4 % 48 = d.val / 4; omega
    | ⟨3, _⟩ => show ((n.val * 56 + s.val) * 192 + d.val) % 4 = d.val % 4; omega)
  rw [val_main_v8_apply, val_main_v5_apply, e]
  unfold val_main_v4
  rw [Host.bitcastConvertNarrow_apply, val_main_v3_apply]
  refine Eq.trans ?_ (byte_shift _ ⟨d.val % 4, by omega⟩)
  refine congrArg (fun w : BitVec 32 => (w.extractLsb' (d.val % 4 * 8) 8).signExtend 32) ?_
  exact (congrArg (val_main_v2 (F := Ideal) x0) (funext fun a => Fin.ext (by
    match a with
    | ⟨0, _⟩ => rfl
    | ⟨1, _⟩ => rfl
    | ⟨2, _⟩ => rfl))).trans (word_at x0 n s ⟨d.val / 4, by omega⟩)

/-- Entry `d` of the vector of node `n`, slot `s`. -/
def refVec (n : Fin 2000) (s : Fin 56) (d : Fin 192) : EReal :=
  byteAt (wordAt (fullRows x0 n) s.val (d.val / 4) s.isLt (by omega)) (d.val % 4)
    * Ideal.ofBits .f32 (wordAt (fullRows x0 n) s.val (48 + d.val / 32) s.isLt (by omega))

theorem vec_at (n : Fin 2000) (s : Fin 56) (d : Fin 192) :
    (val_main_v15 (F := Ideal) x0 (ix3 n s d) : EReal) = refVec x0 n s d := by
  have hn := n.isLt
  have hs := s.isLt
  have hd := d.isLt
  have e : (idx_main_v15 (ix3 n s d) : S2000x56x6x32.Idx) = ix4 n s ⟨d.val / 32, by omega⟩ ⟨d.val % 32, by omega⟩ := funext fun a => Fin.ext (by
    match a with
    | ⟨0, _⟩ => show ((n.val * 56 + s.val) * 192 + d.val) / 10752 = n.val; omega
    | ⟨1, _⟩ => show ((n.val * 56 + s.val) * 192 + d.val) / 192 % 56 = s.val; omega
    | ⟨2, _⟩ => show ((n.val * 56 + s.val) * 192 + d.val) / 32 % 6 = d.val / 32; omega
    | ⟨3, _⟩ => show ((n.val * 56 + s.val) * 192 + d.val) % 32 = d.val % 32; omega)
  have e21 : (idx_main_v10 (ix4 n s ⟨d.val / 32, by omega⟩ ⟨d.val % 32, by omega⟩) : S2000x56x192.Idx) = ix3 n s d := funext fun a => Fin.ext (by
    match a with
    | ⟨0, _⟩ => show (((n.val * 56 + s.val) * 6 + d.val / 32) * 32 + d.val % 32) / 10752 = n.val; omega
    | ⟨1, _⟩ => show (((n.val * 56 + s.val) * 6 + d.val / 32) * 32 + d.val % 32) / 192 % 56 = s.val; omega
    | ⟨2, _⟩ => show (((n.val * 56 + s.val) * 6 + d.val / 32) * 32 + d.val % 32) % 192 = d.val; omega)
  have e17 : (idx_main_v6 (idx_main_v12 (idx_main_v13 (ix4 n s ⟨d.val / 32, by omega⟩ ⟨d.val % 32, by omega⟩))) : S2000x56x64.Idx) = ix3 n s ⟨48 + d.val / 32, by omega⟩ :=
    funext fun a => Fin.ext (by
    match a with
    | ⟨0, _⟩ => rfl
    | ⟨1, _⟩ => rfl
    | ⟨2, _⟩ => rfl)
  rw [val_main_v15_apply, e, val_main_v14_apply, val_main_v10_apply, e21, val_main_v9_apply, code_at, val_main_v13_apply, val_main_v12_apply,
    val_main_v11_apply, val_main_v7_apply, val_main_v6_apply, e17, word_at]
  rfl

/-- The sum of products of two slots' vectors. -/
def refDot (n : Fin 2000) (i j : Fin 56) : EReal := ∑ d : Fin 192, refVec x0 n i d * refVec x0 n j d

theorem gram_at (n : Fin 2000) (i j : Fin 56) :
    (val_main_v19 (F := Ideal) x0 (ix3 n i j) : EReal) = refDot x0 n i j := by
  rw [val_main_v19_apply]
  refine Finset.sum_congr rfl fun d _ => ?_
  rw [← vec_at, ← vec_at]
  refine congrArg₂ (fun a b : EReal => a * b) (congrArg (val_main_v15 (F := Ideal) x0) ?_) (congrArg (val_main_v15 (F := Ideal) x0) ?_) <;>
  exact funext fun a => Fin.ext (by
    match a with
    | ⟨0, _⟩ => rfl
    | ⟨1, _⟩ => rfl
    | ⟨2, _⟩ => rfl)

theorem norm_at (n : Fin 2000) (i : Fin 56) :
    (val_main_v18 (F := Ideal) x0 (ix2 n i) : EReal) = refDot x0 n i i := by
  rw [val_main_v18_apply, val_main_cst_apply]
  refine (congrArg (fun z : EReal => z + _) (Ideal.ofBits_zero_f32 : Ideal.ofBits .f32 0x00000000#32 = 0)).trans ?_
  refine (zero_add _).trans (Finset.sum_congr rfl fun d _ => ?_)
  have e : (idx_main_v18 (ix2 n i) d : S2000x56x192.Idx) = ix3 n i d := funext fun a => Fin.ext (by
    match a with
    | ⟨0, _⟩ => rfl
    | ⟨1, _⟩ => rfl
    | ⟨2, _⟩ => rfl)
  rw [val_main_v17_apply, val_main_v16_apply, e, ← vec_at]
  rfl

/-- The reference's result at slots `i`, `j` of node `n`. -/
theorem ref_at (i j : Fin 56) (n : Fin 2000) :
    (val_main_v40 (F := Ideal) x0 x1 (ix3 i j n) : EReal)
      = Scalar.select (IntOp.andi (IntOp.cmpi CmpIPredicate.slt (BitVec.ofNat 32 i.val) (x1 (ix1 n))) (IntOp.cmpi CmpIPredicate.slt (BitVec.ofNat 32 j.val) (x1 (ix1 n))))
        (refDot x0 n i i + refDot x0 n j j - Ideal.ofBits FTy.f32 1073741824#32 * refDot x0 n i j) (Ideal.ofBits FTy.f32 3212836864#32) := by
  have e : (idx_main_v40 (ix3 i j n) : S2000x56x56.Idx) = ix3 n i j := funext fun a => Fin.ext (by
    match a with
    | ⟨0, _⟩ => rfl
    | ⟨1, _⟩ => rfl
    | ⟨2, _⟩ => rfl)
  have ei : (idx_main_v20 (idx_main_v22 (ix3 n i j)) : S2000x56.Idx) = ix2 n i := funext fun a => Fin.ext (by
    match a with
    | ⟨0, _⟩ => rfl
    | ⟨1, _⟩ => rfl)
  have ej : (idx_main_v21 (idx_main_v23 (ix3 n i j)) : S2000x56.Idx) = ix2 n j := funext fun a => Fin.ext (by
    match a with
    | ⟨0, _⟩ => rfl
    | ⟨1, _⟩ => rfl)
  rw [val_main_v40_apply, e, val_main_v39_apply, val_main_v27_apply, val_main_v24_apply, val_main_v26_apply, val_main_v25_apply, val_main_cst_0_apply,
    gram_at, val_main_v22_apply, val_main_v20_apply, ei, val_main_v23_apply, val_main_v21_apply, ej, norm_at, norm_at,
    val_main_call0_v1_apply, val_main_call0_v0_apply, val_main_cst_1_apply, val_main_v38_apply, val_main_v36_apply, val_main_v34_apply, val_main_v37_apply, val_main_v35_apply,
    val_main_v33_apply, val_main_v33_apply, val_main_v31_apply, val_main_v31_apply, val_main_v32_apply, val_main_v32_apply, val_main_v29_apply, val_main_v29_apply,
    val_main_v30_apply, val_main_v28_apply, val_main_v28_apply]
  have ec : (idx_main_v30 (idx_main_v32 (idx_main_v34 (idx_main_v36 (ix3 n i j)))) : S2000.Idx) = ix1 n := funext fun a => Fin.ext (by
    match a with
    | ⟨0, _⟩ => rfl)
  rw [ec]
  rfl

/-! ## The two sides -/

/-- A live slot's vector in the kernel, at the place the kernel keeps code `d`. -/
theorem vecAt_live (n : Fin 2000) (cnt : BitVec 32) (s : Fin 56) (hl : (BitVec.ofNat 32 s.val).slt cnt) (d : Fin 192) (c : Fin 256) (hc : c.val = 64 * (d.val % 4) + d.val / 4) :
    vecAt (fullRows x0 n) cnt s c = refVec x0 n s d := by
  have hd := d.isLt
  obtain ⟨c, hc'⟩ := c
  obtain rfl : c = 64 * (d.val % 4) + d.val / 4 := hc
  have h1 : (64 * (d.val % 4) + d.val / 4) % 64 = d.val / 4 := by omega
  have h2 : (64 * (d.val % 4) + d.val / 4) / 64 = d.val % 4 := by omega
  have h3 : d.val / 4 / 8 = d.val / 32 := by omega
  unfold vecAt refVec scaleAt
  simp only [h1, h2, h3]
  rw [if_pos ⟨hl, by omega⟩]

/-- The kernel's vectors are zero behind the codes. -/
theorem vecAt_dead (w : (⟨2, ![28, 128]⟩ : Shape).Idx → BitVec 32) (cnt : BitVec 32) (s : Fin 56) (c : Fin 256) (hc : 48 ≤ c.val % 64) : vecAt w cnt s c = 0 := by
  unfold vecAt scaleAt
  rw [if_neg (fun h => absurd h.2 (by omega)), mul_zero]

/-- The place the kernel keeps code `d`. -/
def place (d : Fin 192) : Fin 256 := ⟨64 * (d.val % 4) + d.val / 4, by have h := d.isLt; omega⟩

/-- The kernel's product of two live slots' vectors is the reference's. -/
theorem dot_eq (n : Fin 2000) (cnt : BitVec 32) (i j : Fin 56) (hi : (BitVec.ofNat 32 i.val).slt cnt) (hj : (BitVec.ofNat 32 j.val).slt cnt) :
    dotAt (loadA (fullRows x0 n) cnt) i j = refDot x0 n i j := by
  unfold dotAt refDot
  refine Eq.symm (Finset.sum_of_injOn place (fun a _ b _ h => ?_) (fun _ _ => Finset.mem_coe.mpr (Finset.mem_univ _)) (fun c _ hc => ?_) (fun d _ => ?_))
  · have h' : 64 * (a.val % 4) + a.val / 4 = 64 * (b.val % 4) + b.val / 4 := congrArg Fin.val h
    have ha := a.isLt
    have hb := b.isLt
    exact Fin.ext (by omega)
  · rw [loadA_apply, loadA_apply, vecAt_dead _ _ _ _ ?_]
    · exact zero_mul _
    · by_contra hlt
      have hc' := c.isLt
      refine hc ⟨⟨4 * (c.val % 64) + c.val / 64, by omega⟩, Finset.mem_coe.mpr (Finset.mem_univ _), Fin.ext ?_⟩
      show 64 * ((4 * (c.val % 64) + c.val / 64) % 4) + (4 * (c.val % 64) + c.val / 64) / 4 = c.val
      omega
  · rw [loadA_apply, loadA_apply, vecAt_live x0 n cnt i hi d (place d) rfl, vecAt_live x0 n cnt j hj d (place d) rfl]

/-- The kernel's array is the reference's. -/
theorem array_eq : (arrG x0 x1 : (⟨3, ![56, 56, 2000]⟩ : Shape).Idx → EReal) = val_main_v40 (F := Ideal) x0 x1 := by
  funext y
  have ey : (y : (⟨3, ![56, 56, 2000]⟩ : Shape).Idx) = ix3 (y 0) (y 1) (y 2) := funext fun a => by
    match a with
    | ⟨0, _⟩ => rfl
    | ⟨1, _⟩ => rfl
    | ⟨2, _⟩ => rfl
  rw [ey]
  generalize (y 0 : Fin 56) = i
  generalize (y 1 : Fin 56) = j
  generalize (y 2 : Fin 2000) = n
  refine Eq.trans ?_ (ref_at x0 x1 i j n).symm
  show distAt (loadA (fullRows x0 n) (x1 (ix1 n))) (x1 (ix1 n)) i j = _
  generalize x1 (ix1 n) = cnt
  unfold distAt
  by_cases hi : (BitVec.ofNat 32 i.val).slt cnt = true
  · by_cases hj : (BitVec.ofNat 32 j.val).slt cnt = true
    · rw [dot_eq x0 n cnt i i hi hi, dot_eq x0 n cnt j j hj hj, dot_eq x0 n cnt i j hi hj]
      show Scalar.select (BitVec.ofBool ((BitVec.ofNat 32 j.val).slt cnt) &&& BitVec.ofBool ((BitVec.ofNat 32 i.val).slt cnt)) _ _
        = Scalar.select (BitVec.ofBool ((BitVec.ofNat 32 i.val).slt cnt) &&& BitVec.ofBool ((BitVec.ofNat 32 j.val).slt cnt)) _ _
      rw [hi, hj]
    · show Scalar.select (BitVec.ofBool ((BitVec.ofNat 32 j.val).slt cnt) &&& BitVec.ofBool ((BitVec.ofNat 32 i.val).slt cnt)) _ _
        = Scalar.select (BitVec.ofBool ((BitVec.ofNat 32 i.val).slt cnt) &&& BitVec.ofBool ((BitVec.ofNat 32 j.val).slt cnt)) _ _
      rw [hi, Bool.eq_false_iff.mpr hj]
      exact (if_neg (by decide) : Scalar.select _ _ _ = _).trans (if_neg (by decide) : Scalar.select _ _ _ = _).symm
  · show Scalar.select (BitVec.ofBool ((BitVec.ofNat 32 j.val).slt cnt) &&& BitVec.ofBool ((BitVec.ofNat 32 i.val).slt cnt)) _ _
      = Scalar.select (BitVec.ofBool ((BitVec.ofNat 32 i.val).slt cnt) &&& BitVec.ofBool ((BitVec.ofNat 32 j.val).slt cnt)) _ _
    rw [Bool.eq_false_iff.mpr hi]
    cases (BitVec.ofNat 32 j.val).slt cnt <;>
    exact (if_neg (by decide) : Scalar.select _ _ _ = _).trans (if_neg (by decide) : Scalar.select _ _ _ = _).symm

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.BodyK
public import proofs.«01_k».proof.Proof.BodyI
public import proofs.«01_k».proof.Proof.ArrayRun
public import proofs.«01_k».proof.Proof.Ref
public import Idealize.ShloMosaic.Adequacy
public import Idealize.ShloMosaic.Init

@[expose] public section

noncomputable section

namespace Cert.Proof

open Idealize.ShloMosaic Idealize.SL.Sem Cert.Kernel

/-- The kernel at machine words: no fault, its arguments end unchanged, every counter ends at zero. -/
theorem frame_k : Cert.quiescent_Kernel := fun m ρ _ => Cert.Kernel.Hand.frame_run (F := Bits) m ρ

/-- The kernel at exact values: no fault, its arguments end unchanged, every counter ends at zero. -/
theorem frame_i : Cert.quiescent_KernelIdeal := by
  intro m ρ _
  exact Cert.KernelIdeal.Hand.frame_run (F := Ideal) m ρ

/-- The reference at exact values: no fault, its arguments end unchanged; it declares no semaphore. -/
theorem frame_r : Cert.quiescent_ReferenceIdeal := fun m ρ _ =>
  (θ_run _ _ _).mono (fun _ h => ⟨fun c => (h c).2, sem_eq_zero_of_no_sems (by decide) _⟩) (Cert.ReferenceIdeal.Value.run (F := Ideal) m ρ)

/-- Kernel and reference at exact values end with the same array: the distances of every node. -/
theorem same_result : Cert.algebraic_KernelIdeal_ReferenceIdeal := by
  intro m ρ m' ρ' _ hargs
  refine ⟨fun c => Cert.KernelIdeal.Hand.arrG (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.value_run m ρ,
    (θ_run _ _ _).mono (fun _ h c => ⟨(h c).1.trans ?_, (h c).2⟩) (Cert.ReferenceIdeal.Value.run (F := Ideal) m' ρ')⟩
  rw [Cert.ReferenceIdeal.Read.val_main_v40_eq, (hargs c).1, (hargs c).2]
  exact (Cert.ReferenceIdeal.Hand.array_eq _ _).symm

theorem claim : Cert.Claim := ⟨Cert.Kernel.Gen.facts, Cert.KernelIdeal.Gen.facts, Cert.ReferenceIdeal.Gen.facts,
  frame_k, frame_i, frame_r, trivial, same_result⟩

end Cert.Proof

end
